-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S1x2048 : Shape := ⟨2, ![1, 2048]⟩
abbrev S16x2048 : Shape := ⟨2, ![16, 2048]⟩
abbrev S2x2048x2048 : Shape := ⟨3, ![2, 2048, 2048]⟩
abbrev S1x512x1024 : Shape := ⟨3, ![1, 512, 1024]⟩
abbrev S1024x1024 : Shape := ⟨2, ![1024, 1024]⟩
abbrev S1024x4 : Shape := ⟨2, ![1024, 4]⟩
abbrev S1x1024 : Shape := ⟨2, ![1, 1024]⟩
abbrev S1x512x2048 : Shape := ⟨3, ![1, 512, 2048]⟩
abbrev S2x8x1024 : Shape := ⟨3, ![2, 8, 1024]⟩
abbrev S512x2048 : Shape := ⟨2, ![512, 2048]⟩
abbrev S512x32 : Shape := ⟨2, ![512, 32]⟩
abbrev S1024x2048 : Shape := ⟨2, ![1024, 2048]⟩
abbrev S512x1024 : Shape := ⟨2, ![512, 1024]⟩
abbrev S256x1024 : Shape := ⟨2, ![256, 1024]⟩
abbrev S1x3x1024 : Shape := ⟨3, ![1, 3, 1024]⟩
abbrev S3x1024 : Shape := ⟨2, ![3, 1024]⟩
abbrev S259x1024 : Shape := ⟨2, ![259, 1024]⟩
abbrev S1024x1 : Shape := ⟨2, ![1024, 1]⟩
abbrev S1024 : Shape := ⟨1, ![1024]⟩
abbrev S8x1024 : Shape := ⟨2, ![8, 1024]⟩
abbrev S1x8x1024 : Shape := ⟨3, ![1, 8, 1024]⟩
abbrev S512x96 : Shape := ⟨2, ![512, 96]⟩
abbrev S512x64 : Shape := ⟨2, ![512, 64]⟩
abbrev S64x1024 : Shape := ⟨2, ![64, 1024]⟩
abbrev S64x32 : Shape := ⟨2, ![64, 32]⟩
abbrev S32x64 : Shape := ⟨2, ![32, 64]⟩
abbrev S16x1 : Shape := ⟨2, ![16, 1]⟩
abbrev S64x16 : Shape := ⟨2, ![64, 16]⟩
abbrev S1x64x2048 : Shape := ⟨3, ![1, 64, 2048]⟩

abbrev nBuf : Space → Nat
  | .hbm => 18
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S1024x4096, .f32⟩
  | .hbm, ⟨2, _⟩ => ⟨S2048x4, .f32⟩
  | .hbm, ⟨3, _⟩ => ⟨S2048, .f32⟩
  | .hbm, ⟨4, _⟩ => ⟨S2048x96, .f32⟩
  | .hbm, ⟨5, _⟩ => ⟨S64x2048, .f32⟩
  | .hbm, ⟨6, _⟩ => ⟨S2048, .f32⟩
  | .hbm, ⟨7, _⟩ => ⟨S2048x16, .f32⟩
  | .hbm, ⟨8, _⟩ => ⟨S2048, .f32⟩
  | .hbm, ⟨9, _⟩ => ⟨S2048x1024, .f32⟩
  | .hbm, ⟨10, _⟩ => ⟨S1024x4096, .bf16⟩
  | .hbm, ⟨11, _⟩ => ⟨S2048x1024, .bf16⟩
  | .hbm, ⟨12, _⟩ => ⟨S1x2048, .f32⟩
  | .hbm, ⟨13, _⟩ => ⟨S1x2048, .f32⟩
  | .hbm, ⟨14, _⟩ => ⟨S16x2048, .f32⟩
  | .hbm, ⟨15, _⟩ => ⟨S1x2048, .f32⟩
  | .hbm, ⟨16, _⟩ => ⟨S2x2048x2048, .f32⟩
  | .hbm, ⟨17, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x4, .f32⟩
  | .local _ .vmem, ⟨5, _⟩ => ⟨S1024x4, .f32⟩
  | .local _ .vmem, ⟨6, _⟩ => ⟨S1x1024, .f32⟩
  | .local _ .vmem, ⟨7, _⟩ => ⟨S1x1024, .f32⟩
  | .local _ .vmem, ⟨8, _⟩ => ⟨S2048x96, .f32⟩
  | .local _ .vmem, ⟨9, _⟩ => ⟨S64x2048, .f32⟩
  | .local _ .vmem, ⟨10, _⟩ => ⟨S1x2048, .f32⟩
  | .local _ .vmem, ⟨11, _⟩ => ⟨S16x2048, .f32⟩
  | .local _ .vmem, ⟨12, _⟩ => ⟨S1x2048, .f32⟩
  | .local _ .vmem, ⟨13, _⟩ => ⟨S1x512x2048, .f32⟩
  | .local _ .vmem, ⟨14, _⟩ => ⟨S1x512x2048, .f32⟩
  | .local _ .vmem, ⟨15, _⟩ => ⟨S2x8x1024, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x32, .f32⟩
  | .local _ .vmem, ⟨20, _⟩ => ⟨S16x2048, .f32⟩
  | .local _ .vmem, ⟨21, _⟩ => ⟨S1024x2048, .f32⟩
  | .local _ .vmem, ⟨22, _⟩ => ⟨S1x512x2048, .f32⟩
  | .local _ .vmem, ⟨23, _⟩ => ⟨S1x512x2048, .f32⟩
  | .local _ .vmem, ⟨24, _⟩ => ⟨S2048x1024, .bf16⟩
  | .local _ .vmem, ⟨25, _⟩ => ⟨S1x512x1024, .f32⟩
  | .local _ .vmem, ⟨26, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg2_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19

abbrev nD : Nat := 1
abbrev τ : Topo := Topo.v7x

variable {F : FTy → Type} [FloatOps F]

abbrev grid0 : Pipeline.Grid := ⟨3, ![2, 4, 5], ![false, false, false]⟩

def k0_cond1 (i : grid0.Coords) : BitVec 1 :=
  let arg2 : BitVec 32 := BitVec.ofNat 32 (i 2).val
  let c2_i32 : BitVec 32 := 2#32
  let v0 : BitVec 1 := Scalar.cmpi .slt arg2 c2_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg2 : BitVec 32 := BitVec.ofNat 32 (i 2).val
  let v23 : Index := Scalar.indexCast arg2
  let c5 : Index := 5#32
  let c0_11 : Index := 0#32
  ![v23.toNat, 5, 0]
def k0_off2 (i : grid0.Coords) : Fin 3 → Nat :=
  let arg2 : BitVec 32 := BitVec.ofNat 32 (i 2).val
  let v107 : Index := Scalar.indexCast arg2
  let c0_35 : Index := 0#32
  let c0_36 : Index := 0#32
  ![v107.toNat, 0, 0]
def k0_cond6 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_3 : BitVec 32 := 0#32
  let v11 : BitVec 1 := Scalar.cmpi .ne v10 c0_i32_3
  v11

@[reducible] def k0_t1_loop : Scf.Loop 32 :=
  let c0_i32_14 : BitVec 32 := 0#32
  let c8_i32 : BitVec 32 := 8#32
  let v49 : BitVec 32 := Scalar.addi c0_i32_14 c8_i32
  let c1_i32_15 : BitVec 32 := 1#32
  ⟨c0_i32_14, v49, c1_i32_15⟩
def k0_mult1 (k0_t1 : Fin k0_t1_loop.trips) : BitVec 32 :=
  let c0_i32_14 : BitVec 32 := 0#32
  let c1_i32_15 : BitVec 32 := 1#32
  let arg20 : BitVec 32 := Scf.iv c0_i32_14 c1_i32_15 k0_t1
  let c64_i32 : BitVec 32 := 64#32
  let v50 : BitVec 32 := Scalar.muli arg20 c64_i32
  v50
def k0_off3 (k0_t1 : Fin k0_t1_loop.trips) : Fin 2 → Nat :=
  let c0_i32_14 : BitVec 32 := 0#32
  let c1_i32_15 : BitVec 32 := 1#32
  let arg20 : BitVec 32 := Scf.iv c0_i32_14 c1_i32_15 k0_t1
  let c64_i32 : BitVec 32 := 64#32
  let v50 : BitVec 32 := Scalar.muli arg20 c64_i32
  let v51 : BitVec 32 := v50
  let v52 : Index := Scalar.indexCast v51
  let c0_17 : Index := 0#32
  ![v52.toNat, 0]
def k0_off4 (k0_t1 : Fin k0_t1_loop.trips) : Fin 2 → Nat :=
  let c0_i32_14 : BitVec 32 := 0#32
  let c1_i32_15 : BitVec 32 := 1#32
  let arg20 : BitVec 32 := Scf.iv c0_i32_14 c1_i32_15 k0_t1
  let c64_i32 : BitVec 32 := 64#32
  let v50 : BitVec 32 := Scalar.muli arg20 c64_i32
  let v51 : BitVec 32 := v50
  let v58 : Index := Scalar.indexCast v51
  let c0_20 : Index := 0#32
  ![v58.toNat, 0]
def k0_off5 (k0_t1 : Fin k0_t1_loop.trips) : Fin 3 → Nat :=
  let c0_94 : Index := 0#32
  let c0_i32_14 : BitVec 32 := 0#32
  let c1_i32_15 : BitVec 32 := 1#32
  let arg20 : BitVec 32 := Scf.iv c0_i32_14 c1_i32_15 k0_t1
  let c64_i32 : BitVec 32 := 64#32
  let v50 : BitVec 32 := Scalar.muli arg20 c64_i32
  let v51 : BitVec 32 := v50
  let v972 : Index := Scalar.indexCast v51
  let c0_95 : Index := 0#32
  ![0, v972.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S2048x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "neg_log2e" => some ((-((Real.log 2)⁻¹) : ℝ) : EReal)
  | _ => none
-- ==== ReferenceIdeal.lean ====
abbrev S2x2048x1024 : Shape := ⟨3, ![2, 2048, 1024]⟩
abbrev S1024x4096 : Shape := ⟨2, ![1024, 4096]⟩
abbrev S2048x4 : Shape := ⟨2, ![2048, 4]⟩
abbrev S2048 : Shape := ⟨1, ![2048]⟩
abbrev S2048x96 : Shape := ⟨2, ![2048, 96]⟩
abbrev S64x2048 : Shape := ⟨2, ![64, 2048]⟩
abbrev S2048x16 : Shape := ⟨2, ![2048, 16]⟩
abbrev S2048x1024 : Shape := ⟨2, ![2048, 1024]⟩
abbrev S2x2048x4096 : Shape := ⟨3, ![2, 2048, 4096]⟩
abbrev S2x2048x2048 : Shape := ⟨3, ![2, 2048, 2048]⟩
abbrev S_ : Shape := ⟨0, ![]⟩
abbrev S2x2051x2048 : Shape := ⟨3, ![2, 2051, 2048]⟩
abbrev S2048x1 : Shape := ⟨2, ![2048, 1]⟩
abbrev S1x1x2048 : Shape := ⟨3, ![1, 1, 2048]⟩
abbrev S2x2048x96 : Shape := ⟨3, ![2, 2048, 96]⟩
abbrev S2x2048x64 : Shape := ⟨3, ![2, 2048, 64]⟩
abbrev S2x2048x16 : Shape := ⟨3, ![2, 2048, 16]⟩
abbrev S2048x2x2048 : Shape := ⟨3, ![2048, 2, 2048]⟩
abbrev S2048x2x16 : Shape := ⟨3, ![2048, 2, 16]⟩
abbrev S1x2x2048 : Shape := ⟨3, ![1, 2, 2048]⟩
abbrev S2x2048 : Shape := ⟨2, ![2, 2048]⟩
abbrev S1x2x16 : Shape := ⟨3, ![1, 2, 16]⟩
abbrev S2x16 : Shape := ⟨2, ![2, 16]⟩
abbrev S2x2048x1 : Shape := ⟨3, ![2, 2048, 1]⟩
abbrev S1x2048x16 : Shape := ⟨3, ![1, 2048, 16]⟩
abbrev S2x1x16 : Shape := ⟨3, ![2, 1, 16]⟩

abbrev nBuf : Space → Nat
  | .hbm => 154
  | .vmem => 0
  | .smem => 0
  | _ => 0

abbrev hbmTy0_0 (i : Nat) : BufTy := match i % 128 with
  | 0 => ⟨S2x2048x1024, .f32⟩
  | 1 => ⟨S1024x4096, .f32⟩
  | 2 => ⟨S2048x4, .f32⟩
  | 3 => ⟨S2048, .f32⟩
  | 4 => ⟨S2048x96, .f32⟩
  | 5 => ⟨S64x2048, .f32⟩
  | 6 => ⟨S2048, .f32⟩
  | 7 => ⟨S2048x16, .f32⟩
  | 8 => ⟨S2048, .f32⟩
  | 9 => ⟨S2048x1024, .f32⟩
  | 10 => ⟨S2x2048x4096, .f32⟩
  | 11 => ⟨S2x2048x2048, .f32⟩
  | 12 => ⟨S2x2048x2048, .f32⟩
  | 13 => ⟨S_, .i32⟩
  | 14 => ⟨S_, .f32⟩
  | 15 => ⟨S2x2051x2048, .f32⟩
  | 16 => ⟨S2x2048x2048, .f32⟩
  | 17 => ⟨S2048x1, .f32⟩
  | 18 => ⟨S2048, .f32⟩
  | 19 => ⟨S1x1x2048, .f32⟩
  | 20 => ⟨S2x2048x2048, .f32⟩
  | 21 => ⟨S2x2048x2048, .f32⟩
  | 22 => ⟨S_, .f32⟩
  | 23 => ⟨S2x2048x2048, .f32⟩
  | 24 => ⟨S2x2048x2048, .f32⟩
  | 25 => ⟨S2x2048x2048, .f32⟩
  | 26 => ⟨S2048x1, .f32⟩
  | 27 => ⟨S2048, .f32⟩
  | 28 => ⟨S1x1x2048, .f32⟩
  | 29 => ⟨S2x2048x2048, .f32⟩
  | 30 => ⟨S2x2048x2048, .f32⟩
  | 31 => ⟨S2x2048x2048, .f32⟩
  | 32 => ⟨S2x2048x2048, .f32⟩
  | 33 => ⟨S2048x1, .f32⟩
  | 34 => ⟨S2048, .f32⟩
  | 35 => ⟨S1x1x2048, .f32⟩
  | 36 => ⟨S2x2048x2048, .f32⟩
  | 37 => ⟨S2x2048x2048, .f32⟩
  | 38 => ⟨S2x2048x2048, .f32⟩
  | 39 => ⟨S2x2048x2048, .f32⟩
  | 40 => ⟨S2048x1, .f32⟩
  | 41 => ⟨S2048, .f32⟩
  | 42 => ⟨S1x1x2048, .f32⟩
  | 43 => ⟨S2x2048x2048, .f32⟩
  | 44 => ⟨S2x2048x2048, .f32⟩
  | 45 => ⟨S2x2048x2048, .f32⟩
  | 46 => ⟨S1x1x2048, .f32⟩
  | 47 => ⟨S2x2048x2048, .f32⟩
  | 48 => ⟨S2x2048x2048, .f32⟩
  | 49 => ⟨S2x2048x2048, .f32⟩
  | 50 => ⟨S2x2048x2048, .f32⟩
  | 51 => ⟨S_, .f32⟩
  | 52 => ⟨S2x2048x2048, .f32⟩
  | 53 => ⟨S2x2048x2048, .f32⟩
  | 54 => ⟨S_, .f32⟩
  | 55 => ⟨S2x2048x2048, .f32⟩
  | 56 => ⟨S2x2048x2048, .f32⟩
  | 57 => ⟨S2x2048x2048, .f32⟩
  | 58 => ⟨S2x2048x96, .f32⟩
  | 59 => ⟨S2x2048x64, .f32⟩
  | 60 => ⟨S2x2048x16, .f32⟩
  | 61 => ⟨S2x2048x16, .f32⟩
  | 62 => ⟨S2x2048x2048, .f32⟩
  | 63 => ⟨S1x1x2048, .f32⟩
  | 64 => ⟨S2x2048x2048, .f32⟩
  | 65 => ⟨S2x2048x2048, .f32⟩
  | 66 => ⟨S_, .f32⟩
  | 67 => ⟨S2x2048x2048, .f32⟩
  | 68 => ⟨S2x2048x2048, .f32⟩
  | 69 => ⟨S2x2048x2048, .f32⟩
  | 70 => ⟨S2x2048x2048, .f32⟩
  | 71 => ⟨S2x2048x2048, .i1⟩
  | 72 => ⟨S2x2048x2048, .f32⟩
  | 73 => ⟨S2x2048x2048, .f32⟩
  | 74 => ⟨S2x2048x2048, .f32⟩
  | 75 => ⟨S2x2048x2048, .f32⟩
  | 76 => ⟨S2x2048x2048, .f32⟩
  | 77 => ⟨S2x2048x2048, .f32⟩
  | 78 => ⟨S2x2048x2048, .f32⟩
  | 79 => ⟨S2x2048x2048, .f32⟩
  | 80 => ⟨S2048x16, .f32⟩
  | 81 => ⟨S2048x16, .f32⟩
  | 82 => ⟨S_, .f32⟩
  | 83 => ⟨S2x2048x16, .f32⟩
  | 84 => ⟨S2048x2x2048, .f32⟩
  | 85 => ⟨S2048x2x16, .f32⟩
  | 86 => ⟨S2048x2x16, .f32⟩
  | 87 => ⟨S2048x2x2048, .f32⟩
  | 88 => ⟨S_, .f32⟩
  | 89 => ⟨S2048x2x2048, .f32⟩
  | 90 => ⟨S_, .i32⟩
  | 91 => ⟨S2048x2x2048, .f32⟩
  | 92 => ⟨S2048x2x16, .f32⟩
  | 93 => ⟨S2048x2x16, .f32⟩
  | 94 => ⟨S2048x2x2048, .f32⟩
  | 95 => ⟨S2048x16, .f32⟩
  | 96 => ⟨S_, .i32⟩
  | 97 => ⟨S2x2048x16, .f32⟩
  | 98 => ⟨S2048x2x2048, .f32⟩
  | 99 => ⟨S_, .i32⟩
  | 100 => ⟨S_, .i1⟩
  | 101 => ⟨S_, .i32⟩
  | 102 => ⟨S_, .i32⟩
  | 103 => ⟨S1x2x2048, .f32⟩
  | 104 => ⟨S2x2048, .f32⟩
  | 105 => ⟨S_, .i32⟩
  | 106 => ⟨S_, .i32⟩
  | 107 => ⟨S1x2x16, .f32⟩
  | 108 => ⟨S2x16, .f32⟩
  | 109 => ⟨S_, .i32⟩
  | 110 => ⟨S_, .i32⟩
  | 111 => ⟨S1x2x16, .f32⟩
  | 112 => ⟨S2x16, .f32⟩
  | 113 => ⟨S_, .i32⟩
  | 114 => ⟨S_, .i32⟩
  | 115 => ⟨S1x2x2048, .f32⟩
  | 116 => ⟨S2x2048, .f32⟩
  | 117 => ⟨S2x2048x1, .f32⟩
  | 118 => ⟨S1x2048x16, .f32⟩
  | 119 => ⟨S2x2048x16, .f32⟩
  | 120 => ⟨S2x2048x16, .f32⟩
  | 121 => ⟨S2x2048x16, .f32⟩
  | 122 => ⟨S2x2048x16, .f32⟩
  | 123 => ⟨S2x2048x16, .f32⟩
  | 124 => ⟨S2x2048, .f32⟩
  | 125 => ⟨S2x2048x1, .f32⟩
  | 126 => ⟨S2x1x16, .f32⟩
  | 127 => ⟨S2x2048x16, .f32⟩
  | _ => ⟨S2x2048x1024, .f32⟩

abbrev hbmTy0_1 (i : Nat) : BufTy := match i % 128 with
  | 0 => ⟨S2x2048x16, .f32⟩
  | 1 => ⟨S2x2048x16, .f32⟩
  | 2 => ⟨S2x2048x16, .f32⟩
  | 3 => ⟨S2x2048, .f32⟩
  | 4 => ⟨S1x2x2048, .f32⟩
  | 5 => ⟨S_, .i32⟩
  | 6 => ⟨S_, .i32⟩
  | 7 => ⟨S2048x2x2048, .f32⟩
  | 8 => ⟨S_, .i32⟩
  | 9 => ⟨S_, .i32⟩
  | 10 => ⟨S2x2048x2048, .f32⟩
  | 11 => ⟨S1x1x2048, .f32⟩
  | 12 => ⟨S2x2048x2048, .f32⟩
  | 13 => ⟨S2x2048x2048, .f32⟩
  | 14 => ⟨S2x2048x2048, .f32⟩
  | 15 => ⟨S2x2048x2048, .f32⟩
  | 16 => ⟨S2x2048x2048, .f32⟩
  | 17 => ⟨S_, .f32⟩
  | 18 => ⟨S2x2048x2048, .f32⟩
  | 19 => ⟨S2x2048x2048, .f32⟩
  | 20 => ⟨S_, .f32⟩
  | 21 => ⟨S2x2048x2048, .f32⟩
  | 22 => ⟨S2x2048x2048, .f32⟩
  | 23 => ⟨S2x2048x2048, .f32⟩
  | 24 => ⟨S2x2048x2048, .f32⟩
  | 25 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_0 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_1 : Ref sig .tc := ⟨.hbm, 88, rfl⟩
abbrev main_v53 : Ref sig .tc := ⟨.hbm, 89, rfl⟩
abbrev main_c_2 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_v54_3 : Ref sig .tc := ⟨.hbm, 94, rfl⟩
abbrev main_v54_4 : Ref sig .tc := ⟨.hbm, 95, rfl⟩
abbrev main_v54_5 : Ref sig .tc := ⟨.hbm, 96, rfl⟩
abbrev main_v54_6 : Ref sig .tc := ⟨.hbm, 97, rfl⟩
abbrev main_v54_7 : Ref sig .tc := ⟨.hbm, 98, rfl⟩
abbrev main_while0c_c_10 : Ref sig .tc := ⟨.hbm, 99, rfl⟩
abbrev main_while0c_v63 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_v0 : Ref sig .tc := ⟨.hbm, 103, rfl⟩
abbrev main_while0b_v63 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_v0 : Ref sig .tc := ⟨.hbm, 107, rfl⟩
abbrev main_while0b_v64 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_v0 : Ref sig .tc := ⟨.hbm, 111, rfl⟩
abbrev main_while0b_v65 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_v0 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_call7_v0 : Ref sig .tc := ⟨.hbm, 132, rfl⟩
abbrev main_while0b_call7_c : Ref sig .tc := ⟨.hbm, 133, rfl⟩
abbrev main_while0b_call7_c_0 : Ref sig .tc := ⟨.hbm, 134, rfl⟩
abbrev main_while0b_v82 : Ref sig .tc := ⟨.hbm, 135, rfl⟩
abbrev main_while0b_c_10 : Ref sig .tc := ⟨.hbm, 136, rfl⟩
abbrev main_while0b_v83 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_call8_v0 : Ref sig .tc := ⟨.hbm, 143, rfl⟩
abbrev main_call8_v1 : Ref sig .tc := ⟨.hbm, 144, rfl⟩
abbrev main_call8_cst : Ref sig .tc := ⟨.hbm, 145, rfl⟩
abbrev main_call8_v2 : Ref sig .tc := ⟨.hbm, 146, rfl⟩
abbrev main_call8_v3 : Ref sig .tc := ⟨.hbm, 147, rfl⟩
abbrev main_call8_cst_0 : Ref sig .tc := ⟨.hbm, 148, rfl⟩
abbrev main_call8_v4 : Ref sig .tc := ⟨.hbm, 149, rfl⟩
abbrev main_call8_v5 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== Proof.KI.Scan.lean ====
module

public import proofs.«01_k».proof.Proof.Gen.KernelIdeal.Loops
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of the buffer behind a memref. -/
abbrev Bf (c : Dev nD) {sp : Space} {S : Shape} {e : EltTy} (M : Memref sig .tc sp S e) : Type := BufTy.Contents (Elt F) M.view.ty
/-- The buffer behind a memref held at `f` on core `c`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The printed test `program id = n`. -/
abbrev isAt (v : BitVec 32) (n : BitVec 32) : BitVec 1 := Scalar.cmpi .ne (Scalar.extui (Scalar.cmpi .eq v n)) 0#32

/-- A memref's contents read as a vector. -/
abbrev rd {sp : Space} {S : Shape} {e : EltTy} (M : Memref sig .tc sp S e) (f : BufTy.Contents (Elt F) M.view.ty) : Vec F S e := M.view.read (Elt F) f

/-- The block's number within its sequence, as a word. -/
abbrev pid1 (i : grid0.Coords) : BitVec 32 := BitVec.ofNat 32 (i 1).val
/-- The phase of the point, as a word. -/
abbrev pid2 (i : grid0.Coords) : BitVec 32 := BitVec.ofNat 32 (i 2).val

/-- Column `j` of the convolution weights. -/
abbrev wcol (cw : Vec F S1024x4 .f32) (j : ℕ) (h : ∀ a, (![0, j] : Fin 2 → ℕ) a + S1024x1.size a ≤ S1024x4.size a) : Vec F S1024x1 .f32 :=
  VecWindow.window cw ![0, j] S1024x1.size h

/-- The last three rows the previous block left for this half. -/
abbrev prevRows (i : grid0.Coords) (h1 : k0_cond1 i = 1#1) (tl : Vec F S2x8x1024 .f32) : Vec F S1x3x1024 .f32 :=
  VecWindow.window tl (k0_off1 i) S1x3x1024.size (k0_off1_inb i h1)

/-- The convolved first half. -/
def conv1 (l : BitVec 32) (pv : Vec F S1x3x1024 .f32) (x : Vec F S1x512x1024 .f32) (w : Vec F S1024x1024 .bf16) (cw : Vec F S1024x4 .f32) (cb : Vec F S1x1024 .f32) : FVec F S256x1024 .f32 :=
  k0_pay26 (k0_pay24 l x w pv (wcol cw 0 inb_S1024x4_S1024x1_0_0) (wcol cw 1 inb_S1024x4_S1024x1_0_1) (wcol cw 2 inb_S1024x4_S1024x1_0_2))
    (k0_pay25 l x w pv) (wcol cw 3 inb_S1024x4_S1024x1_0_3) cb

/-- The convolution's four taps in the second half, before the bias. -/
def conv2 (x : Vec F S1x512x1024 .f32) (w : Vec F S1024x1024 .bf16) (cw : Vec F S1024x4 .f32) : FVec F S256x1024 .f32 :=
  k0_pay27 (k0_pay21 x w) (k0_pay22 x w) (wcol cw 0 inb_S1024x4_S1024x1_0_0) (wcol cw 1 inb_S1024x4_S1024x1_0_1) (wcol cw 2 inb_S1024x4_S1024x1_0_2) (wcol cw 3 inb_S1024x4_S1024x1_0_3)

/-- Row `j` of a group is a slice of it. -/
theorem slices_row (j : ℕ) (hj : j < 64) : S64x2048.Slices ![j, 0] S1x2048 :=
  ⟨rfl, fun a => by fin_cases a <;> simp [S64x2048, S1x2048] <;> omega⟩
/-- Column `j` of the transposed maps is a slice of them. -/
theorem slices_col (j : ℕ) (hj : j < 64) : S32x64.Slices ![0, j] S16x1 :=
  ⟨rfl, fun a => by fin_cases a <;> simp [S32x64, S16x1] <;> omega⟩
/-- State `j`'s rows lie within the stack. -/
theorem inb_row (j : ℕ) (hj : j < 64) : ∀ a, (![16 * j, 0] : Fin 2 → ℕ) a + S16x2048.size a ≤ S1024x2048.size a := fun a => by
  fin_cases a <;> simp [S16x2048, S1024x2048] <;> omega

/-- One time step of the scan: row `j` of the group. -/
def stepAt (a : FVec F S16x2048 .f32) (dg ug : FVec F S64x2048 .f32) (bcT : FVec F S32x64 .f32) (j : ℕ) (hj : j < 64) (h : FVec F S16x2048 .f32) : FVec F S16x2048 .f32 :=
  addf (mulf (exp2 (mulf (broadcastTo S16x2048 (extractStridedSlice S1x2048 ![j, 0] dg (slices_row j hj)) broadcasts_S1x2048_S16x2048) a)) h)
    (mulf (broadcastTo S16x2048 (extractStridedSlice S1x2048 ![j, 0] ug (slices_row j hj)) broadcasts_S1x2048_S16x2048)
      (broadcastTo S16x2048 (extractStridedSlice S16x1 ![0, j] bcT (slices_col j hj)) broadcasts_S16x1_S16x2048))

/-- The state after the group's first `n` rows. -/
def hst (a : FVec F S16x2048 .f32) (dg ug : FVec F S64x2048 .f32) (bcT : FVec F S32x64 .f32) (h0 : FVec F S16x2048 .f32) : (n : ℕ) → n ≤ 64 → FVec F S16x2048 .f32
  | 0, _ => h0
  | n + 1, hn => stepAt a dg ug bcT n hn (hst a dg ug bcT h0 n (Nat.le_of_lt hn))

/-- The pieces of the states' store, latest first. -/
def hsL (a : FVec F S16x2048 .f32) (dg ug : FVec F S64x2048 .f32) (bcT : FVec F S32x64 .f32) (h0 : FVec F S16x2048 .f32) : (n : ℕ) → n ≤ 64 → List (View.Piece (Elt F) S1024x2048 .f32)
  | 0, _ => []
  | n + 1, hn => ⟨Rect.unit (s := S1024x2048) ![16 * n, 0] S16x2048.size (inb_row n hn), shapeCast S16x2048 (hst a dg ug bcT h0 (n + 1) hn) shapeCasts_S16x2048_S16x2048⟩
      :: hsL a dg ug bcT h0 n (Nat.le_of_lt hn)

/-- Group `k`'s 64 rows of a block of 512 rows. -/
abbrev grp (i : grid0.Coords) (h6 : k0_cond6 i = 1#1) (k : Fin k0_t1_loop.trips) (x : Vec F S512x2048 .f32) : Vec F S64x2048 .f32 :=
  VecWindow.window x (k0_off3 k) S64x2048.size (k0_off3_inb i k h6)

/-- Group `k`'s 64 rows of the block's input and output maps. -/
abbrev grpBC (i : grid0.Coords) (h6 : k0_cond6 i = 1#1) (k : Fin k0_t1_loop.trips) (x : Vec F S512x32 .f32) : Vec F S64x32 .f32 :=
  VecWindow.window x (k0_off4 k) S64x32.size (k0_off4_inb i k h6)

section
variable (i : grid0.Coords) (h6 : k0_cond6 i = 1#1) (av : Vec F S16x2048 .f32) (dv : Vec F S1x2048 .f32)
  (x14 x15 x16 : Vec F S512x2048 .f32) (x17 : Vec F S512x32 .f32)

/-- The state group `k` leaves when it finds `h`. -/
def tripH (k : Fin k0_t1_loop.trips) (h : Vec F S16x2048 .f32) : Vec F S16x2048 .f32 :=
  shapeCast S16x2048 (hst (k0_pay13 av) (grp i h6 k x16) (k0_pay29 (grp i h6 k x16) (grp i h6 k x14)) (k0_pay28 (grpBC i h6 k x17)) h 64 (Nat.le_refl 64)) shapeCasts_S16x2048_S16x2048

/-- The 64 states of group `k`, stacked. -/
def tripHs (k : Fin k0_t1_loop.trips) (h : Vec F S16x2048 .f32) : Vec F S1024x2048 .f32 :=
  View.canon (hsL (k0_pay13 av) (grp i h6 k x16) (k0_pay29 (grp i h6 k x16) (grp i h6 k x14)) (k0_pay28 (grpBC i h6 k x17)) h 64 (Nat.le_refl 64))

/-- The 64 rows group `k` writes when it finds `h`. -/
def tripG (k : Fin k0_t1_loop.trips) (h : Vec F S16x2048 .f32) : Vec F S1x64x2048 .f32 :=
  k0_pay15 dv (grp i h6 k x14) (grp i h6 k x15) (k0_pay178 k0_pay14 (grpBC i h6 k x17)) (tripHs i h6 av x14 x16 x17 k h)

/-- The state before group `n`. -/
def hseq (h0 : Vec F S16x2048 .f32) : (n : ℕ) → n ≤ k0_t1_loop.trips → Vec F S16x2048 .f32
  | 0, _ => h0
  | n + 1, hn => tripH i h6 av x14 x16 x17 ⟨n, hn⟩ (hseq h0 n (Nat.le_of_lt hn))

/-- The output block before group `n`. -/
def gseq (h0 : Vec F S16x2048 .f32) (g0 : Vec F S1x512x2048 .f32) : (n : ℕ) → n ≤ k0_t1_loop.trips → Vec F S1x512x2048 .f32
  | 0, _ => g0
  | n + 1, hn => VecWindow.put (gseq h0 g0 n (Nat.le_of_lt hn)) (k0_off5 ⟨n, hn⟩) S1x64x2048.size
      (tripG i h6 av dv x14 x15 x16 x17 ⟨n, hn⟩ (hseq i h6 av x14 x16 x17 h0 n (Nat.le_of_lt hn)))
end

variable (arg3 : Memref sig .tc .vmem S1x512x1024 .f32) (harg3 : arg3.IsWhole) (arg4 : Memref sig .tc .vmem S1024x1024 .bf16) (harg4 : arg4.IsWhole) (arg5 : Memref sig .tc .vmem S1024x4 .f32) (harg5 : arg5.IsWhole) (arg6 : Memref sig .tc .vmem S1x1024 .f32) (harg6 : arg6.IsWhole) (arg7 : Memref sig .tc .vmem S2048x96 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S2x8x1024 .f32) (harg13 : arg13.IsWhole) (arg14 : Memref sig .tc .vmem S512x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S512x32 .f32) (harg17 : arg17.IsWhole) (arg18 : Memref sig .tc .vmem S16x2048 .f32) (harg18 : arg18.IsWhole) (arg19 : Memref sig .tc .vmem S1024x2048 .f32) (harg19 : arg19.IsWhole)

/-- What one group writes, as pieces. -/
theorem trip_pieces (c : Dev nD) (i : grid0.Coords) (h6 : k0_cond6 i = 1#1) (v15 : Vec F S16x2048 .f32) (v20 : Vec F S1x2048 .f32)
 (f14 : Bf (F := F) c arg14) (f15 : Bf (F := F) c arg15) (f16 : Bf (F := F) c arg16) (f17 : Bf (F := F) c arg17) (k) (f12 : Bf (F := F) c arg12) (f18 : Bf (F := F) c arg18) (f19 : Bf (F := F) c arg19) :
  tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 k f12 f18 f19 =
    (let dg := View.readAt (Elt F) arg16.view (Rect.unit (s := S512x2048) (k0_off3 k) S64x2048.size (k0_off3_inb i k h6)).toLoadRect f16
     let xg := View.readAt (Elt F) arg14.view (Rect.unit (s := S512x2048) (k0_off3 k) S64x2048.size (k0_off3_inb i k h6)).toLoadRect f14
     let zg := View.readAt (Elt F) arg15.view (Rect.unit (s := S512x2048) (k0_off3 k) S64x2048.size (k0_off3_inb i k h6)).toLoadRect f15
     let bcg := View.readAt (Elt F) arg17.view (Rect.unit (s := S512x32) (k0_off4 k) S64x32.size (k0_off4_inb i k h6)).toLoadRect f17
     let h := View.readAt (Elt F) arg18.view (Rect.unit (s := S16x2048) ![0, 0] S16x2048.size inb_S16x2048_S16x2048_0_0).toLoadRect f18
     let H := hst (k0_pay13 v15) dg (k0_pay29 dg xg) (k0_pay28 bcg) h 64 (Nat.le_refl 64)
     let P := hsL (k0_pay13 v15) dg (k0_pay29 dg xg) (k0_pay28 bcg) h 64 (Nat.le_refl 64)
     ([⟨Rect.unit (s := S1x512x2048) (k0_off5 k) S1x64x2048.size (k0_off5_inb i k h6), k0_pay15 v20 xg zg (k0_pay178 k0_pay14 bcg) (arg19.view.readCov P (Rect.unit (s := S1024x2048) ![0, 0] S1024x2048.size inb_S1024x2048_S1024x2048_0_0).toLoadRect)⟩],
      [⟨Rect.unit (s := S16x2048) ![0, 0] S16x2048.size inb_S16x2048_S16x2048_0_0, shapeCast S16x2048 H shapeCasts_S16x2048_S16x2048⟩],
      P)) := by
  unfold tripL_k0_t1 trip_k0_t1
  rfl

attribute [irreducible] hst hsL

/-- One group's pieces, read: the rows it puts into the output block and the state it leaves. -/
theorem trip_read (c : Dev nD) (i : grid0.Coords) (h6 : k0_cond6 i = 1#1) (v15 : Vec F S16x2048 .f32) (v20 : Vec F S1x2048 .f32)
    (f14 : Bf (F := F) c arg14) (f15 : Bf (F := F) c arg15) (f16 : Bf (F := F) c arg16) (f17 : Bf (F := F) c arg17) (k : Fin k0_t1_loop.trips)
    (f12 : Bf (F := F) c arg12) (f18 : Bf (F := F) c arg18) (f19 : Bf (F := F) c arg19) :
    arg12.view.read (Elt F) (arg12.view.writes (Elt F) f12 (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 k f12 f18 f19).1)
        = VecWindow.put (rd arg12 f12) (k0_off5 k) S1x64x2048.size (tripG i h6 v15 v20 (rd arg14 f14) (rd arg15 f15) (rd arg16 f16) (rd arg17 f17) k (rd arg18 f18))
      ∧ arg18.view.read (Elt F) (arg18.view.writes (Elt F) f18 (tripL_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 k f12 f18 f19).2.1)
        = tripH i h6 v15 (rd arg14 f14) (rd arg16 f16) (rd arg17 f17) k (rd arg18 f18) := by
  have hs := trip_pieces (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 v15 v20 f14 f15 f16 f17 k f12 f18 f19
  dsimp only at hs
  rw [hs]
  dsimp only
  refine ⟨?_, ?_⟩
  · refine (View.read_writes_cons_put _ _ _ _ _ rfl).trans ?_
    rw [View.writes_nil, View.readAt_full, View.readCov_eq_canon']
    unfold tripG tripHs
    congr 2
    funext y
    exact congrArg _ (Rect.emb_unit_full _ y)
  · refine (View.read_writes_full _ _ _ _ _).trans ?_
    rw [View.readAt_full]
    rfl

/-- What the groups before `n` leave in the output block and in the state. -/
theorem pb_read (c : Dev nD) (i : grid0.Coords) (h6 : k0_cond6 i = 1#1) (v15 : Vec F S16x2048 .f32) (v20 : Vec F S1x2048 .f32)
    (f14 : Bf (F := F) c arg14) (f15 : Bf (F := F) c arg15) (f16 : Bf (F := F) c arg16) (f17 : Bf (F := F) c arg17)
    (f12 : Bf (F := F) c arg12) (f18 : Bf (F := F) c arg18) (f19 : Bf (F := F) c arg19) (n : ℕ) (hn : n ≤ k0_t1_loop.trips) :
    arg12.view.read (Elt F) (arg12.view.writes (Elt F) f12 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 f12 f18 f19 n).1)
        = gseq i h6 v15 v20 (rd arg14 f14) (rd arg15 f15) (rd arg16 f16) (rd arg17 f17) (rd arg18 f18) (rd arg12 f12) n hn
      ∧ arg18.view.read (Elt F) (arg18.view.writes (Elt F) f18 (pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 f12 f18 f19 n).2.1)
        = hseq i h6 v15 (rd arg14 f14) (rd arg16 f16) (rd arg17 f17) (rd arg18 f18) n hn := by
  induction n with
  | zero => exact ⟨rfl, rfl⟩
  | succ n ih =>
    obtain ⟨ih1, ih2⟩ := ih (Nat.le_of_lt hn)
    have hs := pb_k0_t1_succ (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 f12 f18 f19 ⟨n, hn⟩
    have ht := trip_read (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 v15 v20 f14 f15 f16 f17 ⟨n, hn⟩
    dsimp only at hs ih1 ih2
    rw [hs]
    generalize pb_k0_t1 (F := F) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h6 v15 v20 f14 f15 f16 f17 f12 f18 f19 n = p at ih1 ih2 ⊢
    obtain ⟨hg, hh⟩ := ht (arg12.view.writes (Elt F) f12 p.1) (arg18.view.writes (Elt F) f18 p.2.1) (arg19.view.writes (Elt F) f19 p.2.2)
    dsimp only [rd] at ih1 ih2 hg hh ⊢
    rw [View.writes_append, View.writes_append]
    rw [hg, hh, ih1, ih2]
    exact ⟨rfl, rfl⟩

end Cert.KernelIdeal.Hand
end
-- ==== Proof.KI.Body.lean ====
module

public import proofs.«01_k».proof.Proof.KI.Scan

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Equal vectors and equal payloads put alike. -/
theorem put_congr {α : Type} {s : Shape} {x x' : s.Idx → α} {off size : Fin s.rank → ℕ} {w w' : ((a : Fin s.rank) → Fin (size a)) → α}
    (hx : x = x') (hw : w = w') : VecWindow.put x off size w = VecWindow.put x' off size w' := by rw [hx, hw]

/-- The first half's convolution from its four parts. -/
theorem conv1_of {l : BitVec 32} {pv : Vec F S1x3x1024 .f32} {x : Vec F S1x512x1024 .f32} {w : Vec F S1024x1024 .bf16} {cw : Vec F S1024x4 .f32} {cb : Vec F S1x1024 .f32}
    {a b : FVec F S256x1024 .f32} {d : Vec F S1024x1 .f32} {e : Vec F S1x1024 .f32}
    (ha : a = k0_pay24 l x w pv (wcol cw 0 inb_S1024x4_S1024x1_0_0) (wcol cw 1 inb_S1024x4_S1024x1_0_1) (wcol cw 2 inb_S1024x4_S1024x1_0_2))
    (hb : b = k0_pay25 l x w pv) (hd : d = wcol cw 3 inb_S1024x4_S1024x1_0_3) (he : e = cb) :
    k0_pay26 a b d e = conv1 l pv x w cw cb := by
  rw [ha, hb, hd, he]; rfl

variable (arg3 : Memref sig .tc .vmem S1x512x1024 .f32) (harg3 : arg3.IsWhole) (arg4 : Memref sig .tc .vmem S1024x1024 .bf16) (harg4 : arg4.IsWhole) (arg5 : Memref sig .tc .vmem S1024x4 .f32) (harg5 : arg5.IsWhole) (arg6 : Memref sig .tc .vmem S1x1024 .f32) (harg6 : arg6.IsWhole) (arg7 : Memref sig .tc .vmem S2048x96 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S2x8x1024 .f32) (harg13 : arg13.IsWhole) (arg14 : Memref sig .tc .vmem S512x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S512x32 .f32) (harg17 : arg17.IsWhole) (arg18 : Memref sig .tc .vmem S16x2048 .f32) (harg18 : arg18.IsWhole) (arg19 : Memref sig .tc .vmem S1024x2048 .f32) (harg19 : arg19.IsWhole)

/-- The body at a point of phase 0: the lower half of the convolution. -/
theorem run0 (c : Dev nD) (i : grid0.Coords)
    (h1 : k0_cond1 i = 1#1) (h2 : isAt (pid2 i) 0#32 = 1#1) (h3 : ¬ isAt (pid2 i) 1#32 = 1#1) (h4 : ¬ isAt (pid2 i) 2#32 = 1#1) (h5 : ¬ isAt (pid2 i) 3#32 = 1#1) (h6 : ¬ k0_cond6 i = 1#1)
    (f3 : Bf (F := F) c arg3) (f4 : Bf (F := F) c arg4) (f5 : Bf (F := F) c arg5) (f6 : Bf (F := F) c arg6) (f13 : Bf (F := F) c arg13) (f14 : Bf (F := F) c arg14) (Q : PUnit → sProp 𝕄) :
    iprop(pt c arg3 f3 ∗ pt c arg4 f4 ∗ pt c arg5 f5 ∗ pt c arg6 f6 ∗ pt c arg13 f13 ∗ pt c arg14 f14 ∗ (iprop(pt c arg3 f3 ∗ pt c arg4 f4 ∗ pt c arg5 f5 ∗ pt c arg6 f6 ∗ ∃ f13', ∃ f14', ⌜rd arg13 f13' = VecWindow.put (rd arg13 f13) (k0_off2 i) S1x8x1024.size (k0_pay2 (k0_pay22 (rd arg3 f3) (rd arg4 f4))) ∧ rd arg14 f14' = VecWindow.put (VecWindow.put (rd arg14 f14) ![0, 0] S256x1024.size (k0_pay3 (conv1 (pid1 i) (prevRows i h1 (rd arg13 f13)) (rd arg3 f3) (rd arg4 f4) (rd arg5 f5) (rd arg6 f6)))) ![256, 0] S256x1024.size (k0_pay4 (conv2 (rd arg3 f3) (rd arg4 f4) (rd arg5 f5)) (rd arg6 f6))⌝ ∗ pt c arg13 f13' ∗ pt c arg14 f14') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H3, H4, H5, H6, H13, H14, Hk⟩
  sl_exec
  sl_step
  iapply Hk
  isplitl [H3]; · iexact H3
  isplitl [H4]; · iexact H4
  isplitl [H5]; · iexact H5
  isplitl [H6]; · iexact H6
  iexists _
  iexists _
  isplitr [H13 H14]
  rotate_left
  · isplitl [H13]; · iexact H13
    iexact H14
  ipureintro
  have e3 : rd arg3 f3 = View.readAt (Elt F) arg3.view (Rect.unit ![0, 0, 0] S1x512x1024.size inb_S1x512x1024_S1x512x1024_0_0_0).toLoadRect f3 := (View.readAt_full _ _ _).symm
  have e4 : rd arg4 f4 = View.readAt (Elt F) arg4.view (Rect.unit ![0, 0] S1024x1024.size inb_S1024x1024_S1024x1024_0_0).toLoadRect f4 := (View.readAt_full _ _ _).symm
  have e6 : rd arg6 f6 = View.readAt (Elt F) arg6.view (Rect.unit ![0, 0] S1x1024.size inb_S1x1024_S1x1024_0_0).toLoadRect f6 := (View.readAt_full _ _ _).symm
  refine ⟨?_, ?_⟩
  · rw [e3, e4]; exact View.read_writes_cons_put _ _ _ _ _ rfl
  · refine (View.read_writes_cons_put _ _ _ _ _ rfl).trans (put_congr ?_ ?_)
    · refine (View.read_writes_cons_put _ _ _ _ _ rfl).trans (put_congr rfl (congrArg k0_pay3 (conv1_of ?_ ?_ ?_ ?_)))
      · rw [e3, e4]; rfl
      · rw [e3, e4]; rfl
      · rfl
      · exact e6.symm
    · refine congr (congrArg k0_pay4 ?_) ?_
      · rw [e3, e4]; rfl
      · exact e6.symm

/-- The body at a point of phase 1: the upper half of the convolution, the step sizes and the maps. -/
theorem run1 (c : Dev nD) (i : grid0.Coords)
    (h1 : k0_cond1 i = 1#1) (h2 : ¬ isAt (pid2 i) 0#32 = 1#1) (h3 : isAt (pid2 i) 1#32 = 1#1) (h4 : ¬ isAt (pid2 i) 2#32 = 1#1) (h5 : ¬ isAt (pid2 i) 3#32 = 1#1) (h6 : ¬ k0_cond6 i = 1#1)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f13 : Bf (F := F) c arg13) (f14 : Bf (F := F) c arg14) (f16 : Bf (F := F) c arg16) (f17 : Bf (F := F) c arg17) (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg13 f13 ∗ pt c arg14 f14 ∗ pt c arg16 f16 ∗ pt c arg17 f17 ∗ (iprop(pt c arg3 f3 ∗ pt c arg4 f4 ∗ pt c arg5 f5 ∗ pt c arg6 f6 ∗ pt c arg7 f7 ∗ pt c arg8 f8 ∗ pt c arg9 f9 ∗ ∃ f13', ∃ f14', ∃ f16', ∃ f17', ⌜rd arg13 f13' = VecWindow.put (rd arg13 f13) (k0_off2 i) S1x8x1024.size (k0_pay2 (k0_pay22 (rd arg3 f3) (rd arg4 f4))) ∧ rd arg14 f14' = VecWindow.put (VecWindow.put (rd arg14 f14) ![0, 1024] S256x1024.size (k0_pay16 (conv1 (pid1 i) (prevRows i h1 (rd arg13 f13)) (rd arg3 f3) (rd arg4 f4) (rd arg5 f5) (rd arg6 f6)))) ![256, 1024] S256x1024.size (k0_pay17 (k0_pay1 (conv2 (rd arg3 f3) (rd arg4 f4) (rd arg5 f5)) (rd arg6 f6))) ∧ rd arg16 f16' = k0_pay19 (VecWindow.put (VecWindow.put (rd arg14 f14) ![0, 1024] S256x1024.size (k0_pay16 (conv1 (pid1 i) (prevRows i h1 (rd arg13 f13)) (rd arg3 f3) (rd arg4 f4) (rd arg5 f5) (rd arg6 f6)))) ![256, 1024] S256x1024.size (k0_pay17 (k0_pay1 (conv2 (rd arg3 f3) (rd arg4 f4) (rd arg5 f5)) (rd arg6 f6)))) (rd arg7 f7) (rd arg8 f8) (rd arg9 f9) ∧ rd arg17 f17' = k0_pay5 (k0_pay18 (VecWindow.put (VecWindow.put (rd arg14 f14) ![0, 1024] S256x1024.size (k0_pay16 (conv1 (pid1 i) (prevRows i h1 (rd arg13 f13)) (rd arg3 f3) (rd arg4 f4) (rd arg5 f5) (rd arg6 f6)))) ![256, 1024] S256x1024.size (k0_pay17 (k0_pay1 (conv2 (rd arg3 f3) (rd arg4 f4) (rd arg5 f5)) (rd arg6 f6)))) (rd arg7 f7))⌝ ∗ pt c arg13 f13' ∗ pt c arg14 f14' ∗ pt c arg16 f16' ∗ pt c arg17 f17') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H3, H4, H5, H6, H7, H8, H9, H13, H14, H16, H17, Hk⟩
  sl_exec
  sl_step
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _
  iexists _
  iexists _
  iexists _
  isplitr [H13 H14 H16 H17]
  rotate_left
  · isplitl [H13]; · iexact H13
    isplitl [H14]; · iexact H14
    isplitl [H16]; · iexact H16
    iexact H17
  ipureintro
  have e3 : rd arg3 f3 = View.readAt (Elt F) arg3.view (Rect.unit ![0, 0, 0] S1x512x1024.size inb_S1x512x1024_S1x512x1024_0_0_0).toLoadRect f3 := (View.readAt_full _ _ _).symm
  have e4 : rd arg4 f4 = View.readAt (Elt F) arg4.view (Rect.unit ![0, 0] S1024x1024.size inb_S1024x1024_S1024x1024_0_0).toLoadRect f4 := (View.readAt_full _ _ _).symm
  have e6 : rd arg6 f6 = View.readAt (Elt F) arg6.view (Rect.unit ![0, 0] S1x1024.size inb_S1x1024_S1x1024_0_0).toLoadRect f6 := (View.readAt_full _ _ _).symm
  refine ⟨?_, ?hx,
    (View.read_writes_full _ _ _ _ _).trans (congr (congr (congr (congrArg k0_pay19 ((View.readAt_full _ _ _).trans ?hx)) (View.readAt_full _ _ _)) (View.readAt_full _ _ _)) (View.readAt_full _ _ _)),
    (View.read_writes_full _ _ _ _ _).trans (congrArg k0_pay5 (congr (congrArg k0_pay18 ((View.readAt_full _ _ _).trans ?hx)) (View.readAt_full _ _ _)))⟩
  · rw [e3, e4]; exact View.read_writes_cons_put _ _ _ _ _ rfl
  refine (View.read_writes_cons_put _ _ _ _ _ rfl).trans (put_congr ?_ ?_)
  · refine (View.read_writes_cons_put _ _ _ _ _ rfl).trans (put_congr rfl (congrArg k0_pay16 (conv1_of ?_ ?_ ?_ ?_)))
    · rw [e3, e4]; rfl
    · rw [e3, e4]; rfl
    · rfl
    · exact e6.symm
  · refine congrArg k0_pay17 (congr (congrArg k0_pay1 ?_) ?_)
    · rw [e3, e4]; rfl
    · exact e6.symm

/-- The body at a point of phase 2: the lower half of the gate. -/
theorem run2 (c : Dev nD) (i : grid0.Coords)
    (h1 : ¬ k0_cond1 i = 1#1) (h4 : isAt (pid2 i) 2#32 = 1#1) (h5 : ¬ isAt (pid2 i) 3#32 = 1#1) (h6 : ¬ k0_cond6 i = 1#1)
    (f3 : Bf (F := F) c arg3) (f4 : Bf (F := F) c arg4) (f15 : Bf (F := F) c arg15) (Q : PUnit → sProp 𝕄) :
    iprop(pt c arg3 f3 ∗ pt c arg4 f4 ∗ pt c arg15 f15 ∗ (iprop(pt c arg3 f3 ∗ pt c arg4 f4 ∗ ∃ f15', ⌜rd arg15 f15' = VecWindow.put (VecWindow.put (rd arg15 f15) ![0, 0] S256x1024.size (k0_pay7 (rd arg3 f3) (rd arg4 f4))) ![256, 0] S256x1024.size (k0_pay8 (rd arg3 f3) (rd arg4 f4))⌝ ∗ pt c arg15 f15') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H3, H4, H15, Hk⟩
  sl_exec
  sl_step
  iapply Hk
  isplitl [H3]; · iexact H3
  isplitl [H4]; · iexact H4
  iexists _
  isplitr [H15]
  rotate_left
  · iexact H15
  ipureintro
  dsimp only [rd]
  refine (View.read_writes_cons_put _ _ _ _ _ rfl).trans ?_
  rw [View.read_writes_cons_put _ _ _ _ _ rfl, View.writes_nil]
  repeat rw [View.readAt_full]

/-- The body at a point of phase 3: the upper half of the gate. -/
theorem run3 (c : Dev nD) (i : grid0.Coords)
    (h1 : ¬ k0_cond1 i = 1#1) (h4 : ¬ isAt (pid2 i) 2#32 = 1#1) (h5 : isAt (pid2 i) 3#32 = 1#1) (h6 : ¬ k0_cond6 i = 1#1)
    (f3 : Bf (F := F) c arg3) (f4 : Bf (F := F) c arg4) (f15 : Bf (F := F) c arg15) (Q : PUnit → sProp 𝕄) :
    iprop(pt c arg3 f3 ∗ pt c arg4 f4 ∗ pt c arg15 f15 ∗ (iprop(pt c arg3 f3 ∗ pt c arg4 f4 ∗ ∃ f15', ⌜rd arg15 f15' = VecWindow.put (VecWindow.put (rd arg15 f15) ![0, 1024] S256x1024.size (k0_pay10 (rd arg3 f3) (rd arg4 f4))) ![256, 1024] S256x1024.size (k0_pay11 (rd arg3 f3) (rd arg4 f4))⌝ ∗ pt c arg15 f15') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H3, H4, H15, Hk⟩
  sl_exec
  sl_step
  iapply Hk
  isplitl [H3]; · iexact H3
  isplitl [H4]; · iexact H4
  iexists _
  isplitr [H15]
  rotate_left
  · iexact H15
  ipureintro
  dsimp only [rd]
  refine (View.read_writes_cons_put _ _ _ _ _ rfl).trans ?_
  rw [View.read_writes_cons_put _ _ _ _ _ rfl, View.writes_nil]
  repeat rw [View.readAt_full]

/-- The body at a point of phase 4: the scan over the block, from a zero state. -/
theorem run4a (c : Dev nD) (i : grid0.Coords)
    (h1 : ¬ k0_cond1 i = 1#1) (h4 : ¬ isAt (pid2 i) 2#32 = 1#1) (h5 : ¬ isAt (pid2 i) 3#32 = 1#1) (h6 : k0_cond6 i = 1#1) (h7 : isAt (pid1 i) 0#32 = 1#1)
    (f10 : Bf (F := F) c arg10) (f11 : Bf (F := F) c arg11) (f14 : Bf (F := F) c arg14) (f15 : Bf (F := F) c arg15) (f16 : Bf (F := F) c arg16) (f17 : Bf (F := F) c arg17) (f12 : Bf (F := F) c arg12) (f18 : Bf (F := F) c arg18) (f19 : Bf (F := F) c arg19) (Q : PUnit → sProp 𝕄) :
    iprop(pt c arg10 f10 ∗ pt c arg11 f11 ∗ pt c arg14 f14 ∗ pt c arg15 f15 ∗ pt c arg16 f16 ∗ pt c arg17 f17 ∗ pt c arg12 f12 ∗ pt c arg18 f18 ∗ pt c arg19 f19 ∗ (iprop(pt c arg10 f10 ∗ pt c arg11 f11 ∗ pt c arg14 f14 ∗ pt c arg15 f15 ∗ pt c arg16 f16 ∗ pt c arg17 f17 ∗ ∃ f12', ∃ f18', ∃ f19', ⌜rd arg12 f12' = gseq i h6 (rd arg10 f10) (rd arg11 f11) (rd arg14 f14) (rd arg15 f15) (rd arg16 f16) (rd arg17 f17) k0_pay12 (rd arg12 f12) k0_t1_loop.trips (Nat.le_refl _) ∧ rd arg18 f18' = hseq i h6 (rd arg10 f10) (rd arg14 f14) (rd arg16 f16) (rd arg17 f17) k0_pay12 k0_t1_loop.trips (Nat.le_refl _)⌝ ∗ pt c arg12 f12' ∗ pt c arg18 f18' ∗ pt c arg19 f19') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H10, H11, H14, H15, H16, H17, H12, H18, H19, Hk⟩
  sl_exec
  sl_step
  iapply Hk
  isplitl [H10]; · iexact H10
  isplitl [H11]; · iexact H11
  isplitl [H14]; · iexact H14
  isplitl [H15]; · iexact H15
  isplitl [H16]; · iexact H16
  isplitl [H17]; · iexact H17
  iexists _
  iexists _
  iexists _
  isplitr [H12 H18 H19]
  rotate_left
  · isplitl [H12]; · iexact H12
    isplitl [H18]; · iexact H18
    iexact H19
  ipureintro
  dsimp only [rd]
  refine ⟨?_, ?_⟩
  · refine (pb_read (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 _ _ f14 f15 f16 f17 _ _ _ _ (Nat.le_refl _)).1.trans ?_
    dsimp only [rd]
    sl_unfold_words
    repeat rw [View.readAt_full]
    rw [View.read_writes_full]
  · rw [View.writes_append]
    refine (pb_read (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 _ _ f14 f15 f16 f17 _ _ _ _ (Nat.le_refl _)).2.trans ?_
    dsimp only [rd]
    sl_unfold_words
    repeat rw [View.readAt_full]
    rw [View.read_writes_full]

/-- The body at a point of phase 4: the scan over the block, from the state the block before it left. -/
theorem run4b (c : Dev nD) (i : grid0.Coords)
    (h1 : ¬ k0_cond1 i = 1#1) (h4 : ¬ isAt (pid2 i) 2#32 = 1#1) (h5 : ¬ isAt (pid2 i) 3#32 = 1#1) (h6 : k0_cond6 i = 1#1) (h7 : ¬ isAt (pid1 i) 0#32 = 1#1)
    (f10 : Bf (F := F) c arg10) (f11 : Bf (F := F) c arg11) (f14 : Bf (F := F) c arg14) (f15 : Bf (F := F) c arg15) (f16 : Bf (F := F) c arg16) (f17 : Bf (F := F) c arg17) (f12 : Bf (F := F) c arg12) (f18 : Bf (F := F) c arg18) (f19 : Bf (F := F) c arg19) (Q : PUnit → sProp 𝕄) :
    iprop(pt c arg10 f10 ∗ pt c arg11 f11 ∗ pt c arg14 f14 ∗ pt c arg15 f15 ∗ pt c arg16 f16 ∗ pt c arg17 f17 ∗ pt c arg12 f12 ∗ pt c arg18 f18 ∗ pt c arg19 f19 ∗ (iprop(pt c arg10 f10 ∗ pt c arg11 f11 ∗ pt c arg14 f14 ∗ pt c arg15 f15 ∗ pt c arg16 f16 ∗ pt c arg17 f17 ∗ ∃ f12', ∃ f18', ∃ f19', ⌜rd arg12 f12' = gseq i h6 (rd arg10 f10) (rd arg11 f11) (rd arg14 f14) (rd arg15 f15) (rd arg16 f16) (rd arg17 f17) (rd arg18 f18) (rd arg12 f12) k0_t1_loop.trips (Nat.le_refl _) ∧ rd arg18 f18' = hseq i h6 (rd arg10 f10) (rd arg14 f14) (rd arg16 f16) (rd arg17 f17) (rd arg18 f18) k0_t1_loop.trips (Nat.le_refl _)⌝ ∗ pt c arg12 f12' ∗ pt c arg18 f18' ∗ pt c arg19 f19') -∗ Q ⟨⟩))
    ⊢ wp frame (wpE (defs₀ (F := F)) Variants.none (c : Thread nD τ) none) Set.univ
        (cc0_ssm_main i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  rw [cc0_ssm_main_eq_skeleton]
  unfold cc0_ssm_main_skel
  iintro ⟨H10, H11, H14, H15, H16, H17, H12, H18, H19, Hk⟩
  sl_exec
  sl_step
  iapply Hk
  isplitl [H10]; · iexact H10
  isplitl [H11]; · iexact H11
  isplitl [H14]; · iexact H14
  isplitl [H15]; · iexact H15
  isplitl [H16]; · iexact H16
  isplitl [H17]; · iexact H17
  iexists _
  iexists _
  iexists _
  isplitr [H12 H18 H19]
  rotate_left
  · isplitl [H12]; · iexact H12
    isplitl [H18]; · iexact H18
    iexact H19
  ipureintro
  dsimp only [rd]
  refine ⟨?_, ?_⟩
  · refine (pb_read (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 _ _ f14 f15 f16 f17 _ _ _ _ (Nat.le_refl _)).1.trans ?_
    dsimp only [rd]
    repeat rw [View.readAt_full]
  · refine (pb_read (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c i h6 _ _ f14 f15 f16 f17 _ _ _ _ (Nat.le_refl _)).2.trans ?_
    dsimp only [rd]
    repeat rw [View.readAt_full]

end Cert.KernelIdeal.Hand

end
-- ==== Proof.KI.Spec.lean ====
module

public import proofs.«01_k».proof.Proof.KI.Scan
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The grid has forty points. -/
theorem N0 : grid0.N = 40 := by decide

/-- The conditions of the body, at point `t`: by the phase `t % 5`, and the first block of a sequence. -/
theorem cond_facts : ∀ t : Fin grid0.N,
    (k0_cond1 (grid0.coords t) = 1#1 ↔ t.val % 5 < 2) ∧ (isAt (pid2 (grid0.coords t)) 0#32 = 1#1 ↔ t.val % 5 = 0)
    ∧ (isAt (pid2 (grid0.coords t)) 1#32 = 1#1 ↔ t.val % 5 = 1) ∧ (isAt (pid2 (grid0.coords t)) 2#32 = 1#1 ↔ t.val % 5 = 2)
    ∧ (isAt (pid2 (grid0.coords t)) 3#32 = 1#1 ↔ t.val % 5 = 3) ∧ (k0_cond6 (grid0.coords t) = 1#1 ↔ t.val % 5 = 4)
    ∧ (isAt (pid1 (grid0.coords t)) 0#32 = 1#1 ↔ t.val / 5 % 4 = 0) ∧ (t.val / 5 % 4 = 0 → pid1 (grid0.coords t) = 0#32) := by
  decide +kernel

/-- The offsets into the kept rows: the phase's slot. -/
theorem off_tail : ∀ t : Fin grid0.N, k0_off1 (grid0.coords t) = ![t.val % 5, 5, 0] ∧ k0_off2 (grid0.coords t) = ![t.val % 5, 0, 0] := by
  decide +kernel

/-- The scan runs over eight groups, -/
theorem trips8 : k0_t1_loop.trips = 8 := by decide +kernel

/-- group `k` of them at rows `64 k`. -/
theorem off_out : ∀ k : Fin k0_t1_loop.trips, k0_off5 k = ![0, 64 * k.val, 0] := by decide +kernel

/-- Block `q`'s point of phase `n`. -/
def tq (q n : ℕ) : Fin grid0.N := ⟨(5 * q + n) % 40, by rw [N0]; omega⟩

/-- A grid point's number from its block and phase. -/
theorem tq_val (q n : ℕ) (hq : q < 8) (hn : n < 5) : (tq q n).val = 5 * q + n := by
  show (5 * q + n) % 40 = _; omega

/-- The phase of a grid point. -/
theorem tq_mod (q n : ℕ) (hn : n < 5) : (tq q n).val % 5 = n := by
  show (5 * q + n) % 40 % 5 = _; omega

/-- The block's place in its sequence. -/
theorem tq_div (q n : ℕ) (hn : n < 5) : (tq q n).val / 5 % 4 = q % 4 := by
  show (5 * q + n) % 40 / 5 % 4 = _; omega

/-- The last phase is the one that runs the scan. -/
theorem cond6 (q : ℕ) : k0_cond6 (grid0.coords (tq q 4)) = 1#1 :=
  (cond_facts (tq q 4)).2.2.2.2.2.1.mpr (tq_mod q 4 (by omega))

/-- The blocks the input windows hold at every point. -/
structure Blocks (F : FTy → Type) where
  x : Fin grid0.N → Vec F S1x512x1024 .f32
  w : Fin grid0.N → Vec F S1024x1024 .bf16
  cw : Fin grid0.N → Vec F S1024x4 .f32
  cb : Fin grid0.N → Vec F S1x1024 .f32
  xp : Fin grid0.N → Vec F S2048x96 .f32
  dw : Fin grid0.N → Vec F S64x2048 .f32
  db : Fin grid0.N → Vec F S1x2048 .f32
  a : Fin grid0.N → Vec F S16x2048 .f32
  d : Fin grid0.N → Vec F S1x2048 .f32

/-- A vector of zeros, where any would do. -/
def zeroV (s : Shape) : Vec F s .f32 := fun _ => Scalar.ofBits .f32 0x00000000#32

/-- A window at an equal offset is the same window. -/
theorem window_off {α : Type} {s : Shape} (x : s.Idx → α) {off off' size : Fin s.rank → ℕ} (h : off = off') (i : ∀ a, off a + size a ≤ s.size a) (i' : ∀ a, off' a + size a ≤ s.size a) :
    VecWindow.window x off size i = VecWindow.window x off' size i' := by subst h; rfl

variable (B : Blocks F)

/-- The eight last rows of a block's input projection, as point `t` keeps them. -/
def tailAt (t : Fin grid0.N) : FVec F S1x8x1024 .f32 := k0_pay2 (k0_pay22 (B.x t) (B.w t))

/-- The three last of eight rows. -/
def last3 (v : Vec F S1x8x1024 .f32) : Vec F S1x3x1024 .f32 := VecWindow.window v ![0, 5, 0] S1x3x1024.size (by decide)

/-- The three rows before block `q`, in half `k` of the channels. -/
def pv (q k : ℕ) : Vec F S1x3x1024 .f32 := if q = 0 then zeroV _ else last3 (tailAt B (tq (q - 1) k))

/-- The convolution's first and second 256 rows of block `q`, half `k` of the channels. -/
def cvTop (q k : ℕ) : FVec F S256x1024 .f32 :=
  conv1 (pid1 (grid0.coords (tq q k))) (pv B q k) (B.x (tq q k)) (B.w (tq q k)) (B.cw (tq q k)) (B.cb (tq q k))

/-- The second 256 rows of the convolution. -/
def cvBot (q k : ℕ) : FVec F S256x1024 .f32 := conv2 (B.x (tq q k)) (B.w (tq q k)) (B.cw (tq q k))

/-- The convolved input with its first, then its second half of the channels written. -/
def xcPut0 (X : Vec F S512x2048 .f32) (q : ℕ) : Vec F S512x2048 .f32 :=
  VecWindow.put (VecWindow.put X ![0, 0] S256x1024.size (k0_pay3 (cvTop B q 0))) ![256, 0] S256x1024.size (k0_pay4 (cvBot B q 0) (B.cb (tq q 0)))

/-- The second half of the channels written. -/
def xcPut1 (X : Vec F S512x2048 .f32) (q : ℕ) : Vec F S512x2048 .f32 :=
  VecWindow.put (VecWindow.put X ![0, 1024] S256x1024.size (k0_pay16 (cvTop B q 1))) ![256, 1024] S256x1024.size (k0_pay17 (k0_pay1 (cvBot B q 1) (B.cb (tq q 1))))

/-- The gate likewise. -/
def zPut2 (X : Vec F S512x2048 .f32) (q : ℕ) : Vec F S512x2048 .f32 :=
  VecWindow.put (VecWindow.put X ![0, 0] S256x1024.size (k0_pay7 (B.x (tq q 2)) (B.w (tq q 2)))) ![256, 0] S256x1024.size (k0_pay8 (B.x (tq q 2)) (B.w (tq q 2)))

/-- The gate's second half of the channels written. -/
def zPut3 (X : Vec F S512x2048 .f32) (q : ℕ) : Vec F S512x2048 .f32 :=
  VecWindow.put (VecWindow.put X ![0, 1024] S256x1024.size (k0_pay10 (B.x (tq q 3)) (B.w (tq q 3)))) ![256, 1024] S256x1024.size (k0_pay11 (B.x (tq q 3)) (B.w (tq q 3)))

/-- The four quarters of a block of 512 × 2048 cover it: what was there before does not matter. -/
theorem put_cover (X X' : Vec F S512x2048 .f32) (a b c d : Vec F S256x1024 .f32) :
    VecWindow.put (s := S512x2048) (VecWindow.put (VecWindow.put (VecWindow.put X ![0, 0] S256x1024.size a) ![256, 0] S256x1024.size b) ![0, 1024] S256x1024.size c) ![256, 1024] S256x1024.size d
      = VecWindow.put (VecWindow.put (VecWindow.put (VecWindow.put X' ![0, 0] S256x1024.size a) ![256, 0] S256x1024.size b) ![0, 1024] S256x1024.size c) ![256, 1024] S256x1024.size d := by
  funext y
  unfold VecWindow.put
  have h0 : (y 0).val < 512 := (y 0).isLt
  have h1 : (y 1).val < 2048 := (y 1).isLt
  split_ifs with e1 e2 e3 e4 <;> try rfl
  exfalso
  simp only [Fin.forall_fin_two, S512x2048, S256x1024, not_and_or] at e1 e2 e3 e4
  simp at e1 e2 e3 e4
  omega

/-- Block `q` convolved, its gate, its step sizes and its maps. -/
def xc (q : ℕ) : Vec F S512x2048 .f32 := xcPut1 B (xcPut0 B (zeroV _) q) q
/-- The gate of block `q`. -/
def zg (q : ℕ) : Vec F S512x2048 .f32 := zPut3 B (zPut2 B (zeroV _) q) q
/-- The step sizes of block `q`. -/
def dlt (q : ℕ) : Vec F S512x2048 .f32 := k0_pay19 (xc B q) (B.xp (tq q 1)) (B.dw (tq q 1)) (B.db (tq q 1))
/-- The maps into and out of the state of block `q`. -/
def bc (q : ℕ) : Vec F S512x32 .f32 := k0_pay5 (k0_pay18 (xc B q) (B.xp (tq q 1)))

/-- The state a scan over block `q` leaves when it finds `h`. -/
def hAfter (q : ℕ) (h : Vec F S16x2048 .f32) : Vec F S16x2048 .f32 :=
  hseq (grid0.coords (tq q 4)) (cond6 q) (B.a (tq q 4)) (xc B q) (dlt B q) (bc B q) h k0_t1_loop.trips (Nat.le_refl _)

/-- The state block `q`'s scan finds: zero at a sequence's first block, else what the block before left. -/
def hIn : ℕ → Vec F S16x2048 .f32
  | 0 => k0_pay12
  | q + 1 => if (q + 1) % 4 = 0 then k0_pay12 else hAfter B q (hIn q)

/-- Block `q` of the scan's gated output. -/
def outB (q : ℕ) : Vec F S1x512x2048 .f32 :=
  gseq (grid0.coords (tq q 4)) (cond6 q) (B.a (tq q 4)) (B.d (tq q 4)) (xc B q) (zg B q) (dlt B q) (bc B q) (hIn B q) (zeroV _) k0_t1_loop.trips (Nat.le_refl _)

/-- The convolved input does not depend on what the buffer held. -/
theorem xc_any (X : Vec F S512x2048 .f32) (q : ℕ) : xcPut1 B (xcPut0 B X q) q = xc B q := put_cover _ _ _ _ _ _
/-- Nor does the gate. -/
theorem zg_any (X : Vec F S512x2048 .f32) (q : ℕ) : zPut3 B (zPut2 B X q) q = zg B q := put_cover _ _ _ _ _ _

/-- The groups' rows cover the output block: what was there before does not matter. -/
theorem gseq_rows (i : grid0.Coords) (h6 : k0_cond6 i = 1#1) (av : Vec F S16x2048 .f32) (dv : Vec F S1x2048 .f32) (x14 x15 x16 : Vec F S512x2048 .f32) (x17 : Vec F S512x32 .f32)
    (h0 : Vec F S16x2048 .f32) (g0 g1 : Vec F S1x512x2048 .f32) (n : ℕ) (hn : n ≤ k0_t1_loop.trips) (y : S1x512x2048.Idx) (hy : (y 1).val < 64 * n) :
    gseq i h6 av dv x14 x15 x16 x17 h0 g0 n hn y = gseq i h6 av dv x14 x15 x16 x17 h0 g1 n hn y := by
  induction n with
  | zero => omega
  | succ n ih =>
    unfold gseq VecWindow.put
    split_ifs with e
    · rfl
    · refine ih _ ?_
      by_contra hc
      refine e fun a => ?_
      have h := congrFun (off_out ⟨n, hn⟩) a
      have h0 : (y 0).val < 1 := (y 0).isLt
      have h2 : (y 2).val < 2048 := (y 2).isLt
      rw [h]
      fin_cases a <;> simp [S1x64x2048] <;> omega

/-- Nor does the block's output: all its rows are written. -/
theorem gseq_any (i : grid0.Coords) (h6 : k0_cond6 i = 1#1) (av : Vec F S16x2048 .f32) (dv : Vec F S1x2048 .f32) (x14 x15 x16 : Vec F S512x2048 .f32) (x17 : Vec F S512x32 .f32)
    (h0 : Vec F S16x2048 .f32) (g0 g1 : Vec F S1x512x2048 .f32) :
    gseq i h6 av dv x14 x15 x16 x17 h0 g0 k0_t1_loop.trips (Nat.le_refl _) = gseq i h6 av dv x14 x15 x16 x17 h0 g1 k0_t1_loop.trips (Nat.le_refl _) :=
  funext fun y => gseq_rows i h6 av dv x14 x15 x16 x17 h0 g0 g1 _ _ y (by rw [trips8]; exact (y 1).isLt)

/-- At a sequence's first block the three rows before are not read. -/
theorem conv1_zero (p p' : Vec F S1x3x1024 .f32) (x : Vec F S1x512x1024 .f32) (w : Vec F S1024x1024 .bf16) (cw : Vec F S1024x4 .f32) (cb : Vec F S1x1024 .f32) :
    conv1 0#32 p x w cw cb = conv1 0#32 p' x w cw cb := by
  have h : k0_pay23 0#32 x w p = k0_pay23 0#32 x w p' := rfl
  unfold conv1 k0_pay24 k0_pay25
  rw [h]

/-- What the buffers kept between points hold before point `t`. -/
def Inv (t : ℕ) (x13 : Vec F S2x8x1024 .f32) (x14 x15 x16 : Vec F S512x2048 .f32) (x17 : Vec F S512x32 .f32) (x18 : Vec F S16x2048 .f32) : Prop :=
  (∀ k q, k < 2 → 5 * q + k < t → t ≤ 5 * q + 5 + k → ∀ h, VecWindow.window x13 ![k, 5, 0] S1x3x1024.size h = last3 (tailAt B (tq q k)))
  ∧ (∀ q, t = 5 * q + 1 → ∃ X, x14 = xcPut0 B X q)
  ∧ (∀ q, 5 * q + 2 ≤ t → t ≤ 5 * q + 4 → x14 = xc B q ∧ x16 = dlt B q ∧ x17 = bc B q)
  ∧ (∀ q, t = 5 * q + 3 → ∃ X, x15 = zPut2 B X q)
  ∧ (∀ q, t = 5 * q + 4 → x15 = zg B q)
  ∧ (∀ q, 5 * q + 5 ≤ t → t ≤ 5 * q + 9 → x18 = hAfter B q (hIn B q))

/-- Before the first grid point nothing is said of the buffers. -/
theorem inv_zero (x13 : Vec F S2x8x1024 .f32) (x14 x15 x16 : Vec F S512x2048 .f32) (x17 : Vec F S512x32 .f32) (x18 : Vec F S16x2048 .f32) :
    Inv B 0 x13 x14 x15 x16 x17 x18 := by
  refine ⟨?_, ?_, ?_, ?_, ?_, ?_⟩ <;> intros <;> omega

section
variable {B} {x13 : Vec F S2x8x1024 .f32} {x14 x15 x16 : Vec F S512x2048 .f32} {x17 : Vec F S512x32 .f32} {x18 : Vec F S16x2048 .f32}

/-- The convolution's first rows, from the rows the block before kept. -/
theorem conv1_inv (q k : ℕ) (hk : k < 2) (h : Inv B (5 * q + k) x13 x14 x15 x16 x17 x18) (h1 : k0_cond1 (grid0.coords (tq q k)) = 1#1) :
    conv1 (pid1 (grid0.coords (tq q k))) (prevRows (grid0.coords (tq q k)) h1 x13) (B.x (tq q k)) (B.w (tq q k)) (B.cw (tq q k)) (B.cb (tq q k)) = cvTop B q k := by
  unfold cvTop
  by_cases hl : q % 4 = 0
  · rw [(cond_facts (tq q k)).2.2.2.2.2.2.2 ((tq_div q k (by omega)).trans hl)]
    exact conv1_zero _ _ _ _ _ _
  · have e : prevRows (grid0.coords (tq q k)) h1 x13 = pv B q k := by
      unfold pv
      rw [if_neg (by rintro rfl; exact hl rfl), ← h.1 k (q - 1) hk (by omega) (by omega) (by
        have := k0_off1_inb (grid0.coords (tq q k)) h1
        rw [(off_tail (tq q k)).1, tq_mod q k (by omega)] at this
        exact this)]
      exact window_off _ (by rw [(off_tail (tq q k)).1, tq_mod q k (by omega)]) _ _
    rw [e]

/-- The kept rows after point `5 q + k`. -/
theorem tail_inv (q k : ℕ) (hk : k < 2) (h : Inv B (5 * q + k) x13 x14 x15 x16 x17 x18) :
    ∀ k' q', k' < 2 → 5 * q' + k' < 5 * q + k + 1 → 5 * q + k + 1 ≤ 5 * q' + 5 + k' → ∀ hi,
      VecWindow.window (VecWindow.put x13 (k0_off2 (grid0.coords (tq q k))) S1x8x1024.size (tailAt B (tq q k))) ![k', 5, 0] S1x3x1024.size hi = last3 (tailAt B (tq q' k')) := by
  intro k' q' hk' ha hb hi
  rw [(off_tail (tq q k)).2, tq_mod q k (by omega)]
  by_cases hkk : k' = k
  · obtain rfl : q' = q := by omega
    subst hkk
    rw [VecWindow.window_put_of_inside _ _ _ _ _ _ _ (fun a => by fin_cases a <;> simp [S1x8x1024, S1x3x1024])]
    unfold last3
    refine window_off (s := S1x8x1024) _ ?_ _ _
    funext a
    fin_cases a <;> simp
  · rw [VecWindow.window_put_of_disjoint _ _ _ _ _ hi _ 0 (by simp [S1x8x1024, S1x3x1024]; omega)]
    exact h.1 k' q' hk' (by omega) (by omega) hi

/-- The first phase writes the convolved input's first half and passes the convolution's tail on. -/
theorem inv_step0 (q : ℕ) (h : Inv B (5 * q) x13 x14 x15 x16 x17 x18) (h1 : k0_cond1 (grid0.coords (tq q 0)) = 1#1) :
    Inv B (5 * q + 1) (VecWindow.put x13 (k0_off2 (grid0.coords (tq q 0))) S1x8x1024.size (tailAt B (tq q 0)))
      (VecWindow.put (VecWindow.put x14 ![0, 0] S256x1024.size (k0_pay3 (conv1 (pid1 (grid0.coords (tq q 0))) (prevRows (grid0.coords (tq q 0)) h1 x13) (B.x (tq q 0)) (B.w (tq q 0)) (B.cw (tq q 0)) (B.cb (tq q 0)))))
        ![256, 0] S256x1024.size (k0_pay4 (cvBot B q 0) (B.cb (tq q 0)))) x15 x16 x17 x18 := by
  refine ⟨tail_inv q 0 (by omega) h, fun q' hq' => ?_, ?_, ?_, ?_, fun q' ha hb => h.2.2.2.2.2 q' (by omega) (by omega)⟩
  · obtain rfl : q' = q := by omega
    rw [conv1_inv q' 0 (by omega) h h1]
    exact ⟨x14, rfl⟩
  all_goals intros; omega

/-- The second phase completes the convolved input and writes step sizes and maps. -/
theorem inv_step1 (q : ℕ) (h : Inv B (5 * q + 1) x13 x14 x15 x16 x17 x18) (h1 : k0_cond1 (grid0.coords (tq q 1)) = 1#1) {x14' : Vec F S512x2048 .f32}
    (hx : x14' = VecWindow.put (VecWindow.put x14 ![0, 1024] S256x1024.size (k0_pay16 (conv1 (pid1 (grid0.coords (tq q 1))) (prevRows (grid0.coords (tq q 1)) h1 x13) (B.x (tq q 1)) (B.w (tq q 1)) (B.cw (tq q 1)) (B.cb (tq q 1)))))
        ![256, 1024] S256x1024.size (k0_pay17 (k0_pay1 (cvBot B q 1) (B.cb (tq q 1))))) :
    Inv B (5 * q + 2) (VecWindow.put x13 (k0_off2 (grid0.coords (tq q 1))) S1x8x1024.size (tailAt B (tq q 1))) x14' x15
      (k0_pay19 x14' (B.xp (tq q 1)) (B.dw (tq q 1)) (B.db (tq q 1))) (k0_pay5 (k0_pay18 x14' (B.xp (tq q 1)))) x18 := by
  have e : x14' = xc B q := by
    obtain ⟨X, hX⟩ := h.2.1 q rfl
    rw [hx, conv1_inv q 1 (by omega) h h1, hX]
    exact xc_any B X q
  refine ⟨tail_inv q 1 (by omega) h, ?_, fun q' ha hb => ?_, ?_, ?_, fun q' ha hb => h.2.2.2.2.2 q' (by omega) (by omega)⟩
  · intros; omega
  · obtain rfl : q' = q := by omega
    rw [e]; exact ⟨rfl, rfl, rfl⟩
  all_goals intros; omega

/-- The third phase writes the gate's first half. -/
theorem inv_step2 (q : ℕ) (h : Inv B (5 * q + 2) x13 x14 x15 x16 x17 x18) : Inv B (5 * q + 3) x13 x14 (zPut2 B x15 q) x16 x17 x18 := by
  refine ⟨fun k q' hk ha hb => h.1 k q' hk (by omega) (by omega), ?_, fun q' ha hb => h.2.2.1 q' (by omega) (by omega), fun q' ha => ?_, ?_, fun q' ha hb => h.2.2.2.2.2 q' (by omega) (by omega)⟩
  · intros; omega
  · obtain rfl : q' = q := by omega
    exact ⟨x15, rfl⟩
  · intros; omega

/-- The fourth phase completes the gate. -/
theorem inv_step3 (q : ℕ) (h : Inv B (5 * q + 3) x13 x14 x15 x16 x17 x18) : Inv B (5 * q + 4) x13 x14 (zPut3 B x15 q) x16 x17 x18 := by
  refine ⟨fun k q' hk ha hb => h.1 k q' hk (by omega) (by omega), ?_, fun q' ha hb => h.2.2.1 q' (by omega) (by omega), ?_, fun q' ha => ?_, fun q' ha hb => h.2.2.2.2.2 q' (by omega) (by omega)⟩
  · intros; omega
  · intros; omega
  · obtain rfl : q' = q := by omega
    obtain ⟨X, hX⟩ := h.2.2.2.1 q' rfl
    rw [hX]; exact zg_any B X q'

/-- The state block `q`'s scan finds, from the buffer that holds it. -/
theorem hIn_inv (q : ℕ) (h : Inv B (5 * q + 4) x13 x14 x15 x16 x17 x18) (hl : q % 4 ≠ 0) : x18 = hIn B q := by
  obtain ⟨q, rfl⟩ : ∃ p, q = p + 1 := ⟨q - 1, by omega⟩
  rw [h.2.2.2.2.2 q (by omega) (by omega)]
  show _ = if (q + 1) % 4 = 0 then _ else _
  rw [if_neg hl]

/-- A sequence's first block starts from the zero state. -/
theorem hIn_first (q : ℕ) (hl : q % 4 = 0) : hIn B q = k0_pay12 := by
  cases q with
  | zero => rfl
  | succ q => exact if_pos hl

/-- The fifth phase advances the state over the block. -/
theorem inv_step4 (q : ℕ) (h : Inv B (5 * q + 4) x13 x14 x15 x16 x17 x18) :
    Inv B (5 * q + 5) x13 x14 x15 x16 x17 (hAfter B q (hIn B q)) := by
  refine ⟨fun k q' hk ha hb => h.1 k q' hk (by omega) (by omega), ?_, ?_, ?_, ?_, fun q' ha hb => ?_⟩
  · intros; omega
  · intros; omega
  · intros; omega
  · intros; omega
  · obtain rfl : q' = q := by omega
    rfl
end

end Cert.KernelIdeal.Hand

end
-- ==== Proof.KI.Phase.lean ====
module

public import proofs.«01_k».proof.Proof.KI.Body
public import proofs.«01_k».proof.Proof.KI.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (arg3 : Memref sig .tc .vmem S1x512x1024 .f32) (harg3 : arg3.IsWhole) (arg4 : Memref sig .tc .vmem S1024x1024 .bf16) (harg4 : arg4.IsWhole) (arg5 : Memref sig .tc .vmem S1024x4 .f32) (harg5 : arg5.IsWhole) (arg6 : Memref sig .tc .vmem S1x1024 .f32) (harg6 : arg6.IsWhole) (arg7 : Memref sig .tc .vmem S2048x96 .f32) (harg7 : arg7.IsWhole) (arg8 : Memref sig .tc .vmem S64x2048 .f32) (harg8 : arg8.IsWhole) (arg9 : Memref sig .tc .vmem S1x2048 .f32) (harg9 : arg9.IsWhole) (arg10 : Memref sig .tc .vmem S16x2048 .f32) (harg10 : arg10.IsWhole) (arg11 : Memref sig .tc .vmem S1x2048 .f32) (harg11 : arg11.IsWhole) (arg12 : Memref sig .tc .vmem S1x512x2048 .f32) (harg12 : arg12.IsWhole) (arg13 : Memref sig .tc .vmem S2x8x1024 .f32) (harg13 : arg13.IsWhole) (arg14 : Memref sig .tc .vmem S512x2048 .f32) (harg14 : arg14.IsWhole) (arg15 : Memref sig .tc .vmem S512x2048 .f32) (harg15 : arg15.IsWhole) (arg16 : Memref sig .tc .vmem S512x2048 .f32) (harg16 : arg16.IsWhole) (arg17 : Memref sig .tc .vmem S512x32 .f32) (harg17 : arg17.IsWhole) (arg18 : Memref sig .tc .vmem S16x2048 .f32) (harg18 : arg18.IsWhole) (arg19 : Memref sig .tc .vmem S1024x2048 .f32) (harg19 : arg19.IsWhole)

/-- Every buffer the body works on, held. -/
abbrev Res (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) : sProp 𝕄 :=
  iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)

/-- The input windows hold point `t`'s blocks. -/
abbrev Reads (B : Blocks F) (t : Fin grid0.N) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) : Prop :=
  rd arg3 f3 = B.x t ∧ rd arg4 f4 = B.w t ∧ rd arg5 f5 = B.cw t ∧ rd arg6 f6 = B.cb t ∧ rd arg7 f7 = B.xp t ∧ rd arg8 f8 = B.dw t ∧ rd arg9 f9 = B.db t ∧ rd arg10 f10 = B.a t ∧ rd arg11 f11 = B.d t

/-- What the kept buffers hold before a point. -/
abbrev InvAt (B : Blocks F) (t : ℕ) (c : Dev nD) (f13 : Bf (F := F) c arg13) (f14 : Bf (F := F) c arg14) (f15 : Bf (F := F) c arg15) (f16 : Bf (F := F) c arg16) (f17 : Bf (F := F) c arg17) (f18 : Bf (F := F) c arg18) : Prop :=
  Inv B t (rd arg13 f13) (rd arg14 f14) (rd arg15 f15) (rd arg16 f16) (rd arg17 f17) (rd arg18 f18)

/-- Phase 0. -/
theorem phase0 (B : Blocks F) (q : ℕ) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 0) c f3 f4 f5 f6 f7 f8 f9 f10 f11) (hI : InvAt arg13 arg14 arg15 arg16 arg17 arg18 B (5 * q + 0) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 0)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 0 + 1) c f13' f14' f15' f16' f17' f18' ∧ (0 = 4 → rd arg12 f12' = outB B q) ∧ (0 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run0 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 0)) ((cond_facts (tq q 0)).1.mpr (by rw [tq_mod q 0 (by omega)]; omega)) ((cond_facts (tq q 0)).2.1.mpr (by rw [tq_mod q 0 (by omega)])) (fun e => absurd ((cond_facts (tq q 0)).2.2.1.mp e) (by rw [tq_mod q 0 (by omega)]; omega)) (fun e => absurd ((cond_facts (tq q 0)).2.2.2.1.mp e) (by rw [tq_mod q 0 (by omega)]; omega)) (fun e => absurd ((cond_facts (tq q 0)).2.2.2.2.1.mp e) (by rw [tq_mod q 0 (by omega)]; omega)) (fun e => absurd ((cond_facts (tq q 0)).2.2.2.2.2.1.mp e) (by rw [tq_mod q 0 (by omega)]; omega)) f3 f4 f5 f6 f13 f14 _)
  isplitl [H3]; · iexact H3
  isplitl [H4]; · iexact H4
  isplitl [H5]; · iexact H5
  isplitl [H6]; · iexact H6
  isplitl [H13]; · iexact H13
  isplitl [H14]; · iexact H14
  iintro ⟨H3, H4, H5, H6, ⟨%f13', %f14', %hp, H13, H14⟩⟩
  iexists f12
  iexists f13'
  iexists f14'
  iexists f15
  iexists f16
  iexists f17
  iexists f18
  iexists f19
  isplitr
  · ipureintro
    refine ⟨?_, fun e => absurd e (by omega), fun _ => rfl⟩
    have h := inv_step0 q hI ((cond_facts (tq q 0)).1.mpr (by rw [tq_mod q 0 (by omega)]; omega))
    rw [r3, r4, r5, r6] at hp
    dsimp only [InvAt]
    rw [hp.1, hp.2]
    exact h
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- Phase 1. -/
theorem phase1 (B : Blocks F) (q : ℕ) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 1) c f3 f4 f5 f6 f7 f8 f9 f10 f11) (hI : InvAt arg13 arg14 arg15 arg16 arg17 arg18 B (5 * q + 1) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 1)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 1 + 1) c f13' f14' f15' f16' f17' f18' ∧ (1 = 4 → rd arg12 f12' = outB B q) ∧ (1 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run1 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 1)) ((cond_facts (tq q 1)).1.mpr (by rw [tq_mod q 1 (by omega)]; omega)) (fun e => absurd ((cond_facts (tq q 1)).2.1.mp e) (by rw [tq_mod q 1 (by omega)]; omega)) ((cond_facts (tq q 1)).2.2.1.mpr (by rw [tq_mod q 1 (by omega)])) (fun e => absurd ((cond_facts (tq q 1)).2.2.2.1.mp e) (by rw [tq_mod q 1 (by omega)]; omega)) (fun e => absurd ((cond_facts (tq q 1)).2.2.2.2.1.mp e) (by rw [tq_mod q 1 (by omega)]; omega)) (fun e => absurd ((cond_facts (tq q 1)).2.2.2.2.2.1.mp e) (by rw [tq_mod q 1 (by omega)]; omega)) f3 f4 f5 f6 f7 f8 f9 f13 f14 f16 f17 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H16]; · iexact H16
  isplitl [H17]; · iexact H17
  iintro ⟨H3, H4, H5, H6, H7, H8, H9, ⟨%f13', %f14', %f16', %f17', %hp, H13, H14, H16, H17⟩⟩
  iexists f12
  iexists f13'
  iexists f14'
  iexists f15
  iexists f16'
  iexists f17'
  iexists f18
  iexists f19
  isplitr
  · ipureintro
    refine ⟨?_, fun e => absurd e (by omega), fun _ => rfl⟩
    rw [r3, r4, r5, r6, r7, r8, r9] at hp
    have h := inv_step1 q hI ((cond_facts (tq q 1)).1.mpr (by rw [tq_mod q 1 (by omega)]; omega)) hp.2.1
    dsimp only [InvAt]
    rw [hp.1, hp.2.2.1, hp.2.2.2]
    rw [hp.2.1] at h ⊢
    exact h
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- Phase 2. -/
theorem phase2 (B : Blocks F) (q : ℕ) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 2) c f3 f4 f5 f6 f7 f8 f9 f10 f11) (hI : InvAt arg13 arg14 arg15 arg16 arg17 arg18 B (5 * q + 2) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 2)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 2 + 1) c f13' f14' f15' f16' f17' f18' ∧ (2 = 4 → rd arg12 f12' = outB B q) ∧ (2 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run2 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 2)) (fun e => absurd ((cond_facts (tq q 2)).1.mp e) (by rw [tq_mod q 2 (by omega)]; omega)) ((cond_facts (tq q 2)).2.2.2.1.mpr (by rw [tq_mod q 2 (by omega)])) (fun e => absurd ((cond_facts (tq q 2)).2.2.2.2.1.mp e) (by rw [tq_mod q 2 (by omega)]; omega)) (fun e => absurd ((cond_facts (tq q 2)).2.2.2.2.2.1.mp e) (by rw [tq_mod q 2 (by omega)]; omega)) f3 f4 f15 _)
  isplitl [H3]; · iexact H3
  isplitl [H4]; · iexact H4
  isplitl [H15]; · iexact H15
  iintro ⟨H3, H4, ⟨%f15', %hp, H15⟩⟩
  iexists f12
  iexists f13
  iexists f14
  iexists f15'
  iexists f16
  iexists f17
  iexists f18
  iexists f19
  isplitr
  · ipureintro
    refine ⟨?_, fun e => absurd e (by omega), fun _ => rfl⟩
    rw [r3, r4] at hp
    dsimp only [InvAt]
    rw [hp]
    exact inv_step2 q hI
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- Phase 3. -/
theorem phase3 (B : Blocks F) (q : ℕ) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 3) c f3 f4 f5 f6 f7 f8 f9 f10 f11) (hI : InvAt arg13 arg14 arg15 arg16 arg17 arg18 B (5 * q + 3) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 3)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 3 + 1) c f13' f14' f15' f16' f17' f18' ∧ (3 = 4 → rd arg12 f12' = outB B q) ∧ (3 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run3 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 3)) (fun e => absurd ((cond_facts (tq q 3)).1.mp e) (by rw [tq_mod q 3 (by omega)]; omega)) (fun e => absurd ((cond_facts (tq q 3)).2.2.2.1.mp e) (by rw [tq_mod q 3 (by omega)]; omega)) ((cond_facts (tq q 3)).2.2.2.2.1.mpr (by rw [tq_mod q 3 (by omega)])) (fun e => absurd ((cond_facts (tq q 3)).2.2.2.2.2.1.mp e) (by rw [tq_mod q 3 (by omega)]; omega)) f3 f4 f15 _)
  isplitl [H3]; · iexact H3
  isplitl [H4]; · iexact H4
  isplitl [H15]; · iexact H15
  iintro ⟨H3, H4, ⟨%f15', %hp, H15⟩⟩
  iexists f12
  iexists f13
  iexists f14
  iexists f15'
  iexists f16
  iexists f17
  iexists f18
  iexists f19
  isplitr
  · ipureintro
    refine ⟨?_, fun e => absurd e (by omega), fun _ => rfl⟩
    rw [r3, r4] at hp
    dsimp only [InvAt]
    rw [hp]
    exact inv_step3 q hI
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- Phase 4, at a sequence's first block. -/
theorem phase4a (B : Blocks F) (q : ℕ) (hl : q % 4 = 0) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 4) c f3 f4 f5 f6 f7 f8 f9 f10 f11) (hI : InvAt arg13 arg14 arg15 arg16 arg17 arg18 B (5 * q + 4) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 4)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 4 + 1) c f13' f14' f15' f16' f17' f18' ∧ (4 = 4 → rd arg12 f12' = outB B q) ∧ (4 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run4a (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 4)) (fun e => absurd ((cond_facts (tq q 4)).1.mp e) (by rw [tq_mod q 4 (by omega)]; omega)) (fun e => absurd ((cond_facts (tq q 4)).2.2.2.1.mp e) (by rw [tq_mod q 4 (by omega)]; omega)) (fun e => absurd ((cond_facts (tq q 4)).2.2.2.2.1.mp e) (by rw [tq_mod q 4 (by omega)]; omega)) ((cond_facts (tq q 4)).2.2.2.2.2.1.mpr (by rw [tq_mod q 4 (by omega)])) ((cond_facts (tq q 4)).2.2.2.2.2.2.1.mpr ((tq_div q 4 (by omega)).trans hl)) f10 f11 f14 f15 f16 f17 f12 f18 f19 _)
  isplitl [H10]; · iexact H10
  isplitl [H11]; · iexact H11
  isplitl [H14]; · iexact H14
  isplitl [H15]; · iexact H15
  isplitl [H16]; · iexact H16
  isplitl [H17]; · iexact H17
  isplitl [H12]; · iexact H12
  isplitl [H18]; · iexact H18
  isplitl [H19]; · iexact H19
  iintro ⟨H10, H11, H14, H15, H16, H17, ⟨%f12', %f18', %f19', %hp, H12, H18, H19⟩⟩
  iexists f12'
  iexists f13
  iexists f14
  iexists f15
  iexists f16
  iexists f17
  iexists f18'
  iexists f19'
  isplitr
  · ipureintro
    refine ⟨?_, fun _ => ?_, fun e => absurd rfl e⟩
    all_goals obtain ⟨e14, e16, e17⟩ := hI.2.2.1 q (by omega) (by omega)
    all_goals have e15 := hI.2.2.2.2.1 q rfl
    all_goals rw [r10, r11, e14, e15, e16, e17, ← hIn_first (B := B) q hl] at hp
    · dsimp only [InvAt]
      rw [hp.2]
      exact inv_step4 q hI
    · exact hp.1.trans (gseq_any _ _ _ _ _ _ _ _ _ _ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- Phase 4, at a later block. -/
theorem phase4b (B : Blocks F) (q : ℕ) (hl : ¬ q % 4 = 0) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q 4) c f3 f4 f5 f6 f7 f8 f9 f10 f11) (hI : InvAt arg13 arg14 arg15 arg16 arg17 arg18 B (5 * q + 4) c f13 f14 f15 f16 f17 f18) :
    Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q 4)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + 4 + 1) c f13' f14' f15' f16' f17' f18' ∧ (4 = 4 → rd arg12 f12' = outB B q) ∧ (4 ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')) := by
  obtain ⟨r3, r4, r5, r6, r7, r8, r9, r10, r11⟩ := hr
  iintro ⟨H3, H4, H5, H6, H7, H8, H9, H10, H11, H12, H13, H14, H15, H16, H17, H18, H19⟩
  iapply (run4b (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c (grid0.coords (tq q 4)) (fun e => absurd ((cond_facts (tq q 4)).1.mp e) (by rw [tq_mod q 4 (by omega)]; omega)) (fun e => absurd ((cond_facts (tq q 4)).2.2.2.1.mp e) (by rw [tq_mod q 4 (by omega)]; omega)) (fun e => absurd ((cond_facts (tq q 4)).2.2.2.2.1.mp e) (by rw [tq_mod q 4 (by omega)]; omega)) ((cond_facts (tq q 4)).2.2.2.2.2.1.mpr (by rw [tq_mod q 4 (by omega)])) (fun e => hl ((tq_div q 4 (by omega)).symm.trans ((cond_facts (tq q 4)).2.2.2.2.2.2.1.mp e))) f10 f11 f14 f15 f16 f17 f12 f18 f19 _)
  isplitl [H10]; · iexact H10
  isplitl [H11]; · iexact H11
  isplitl [H14]; · iexact H14
  isplitl [H15]; · iexact H15
  isplitl [H16]; · iexact H16
  isplitl [H17]; · iexact H17
  isplitl [H12]; · iexact H12
  isplitl [H18]; · iexact H18
  isplitl [H19]; · iexact H19
  iintro ⟨H10, H11, H14, H15, H16, H17, ⟨%f12', %f18', %f19', %hp, H12, H18, H19⟩⟩
  iexists f12'
  iexists f13
  iexists f14
  iexists f15
  iexists f16
  iexists f17
  iexists f18'
  iexists f19'
  isplitr
  · ipureintro
    refine ⟨?_, fun _ => ?_, fun e => absurd rfl e⟩
    all_goals obtain ⟨e14, e16, e17⟩ := hI.2.2.1 q (by omega) (by omega)
    all_goals have e15 := hI.2.2.2.2.1 q rfl
    all_goals rw [r10, r11, e14, e15, e16, e17, hIn_inv q hI hl] at hp
    · dsimp only [InvAt]
      rw [hp.2]
      exact inv_step4 q hI
    · exact hp.1.trans (gseq_any _ _ _ _ _ _ _ _ _ _ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- What the body leaves at point `5 q + n`: the kept buffers as the next point finds them, and the output block at the
    last phase. -/
abbrev Post (B : Blocks F) (q n : ℕ) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) : sProp 𝕄 :=
  iprop(∃ f12' : Bf (F := F) c arg12, ∃ f13' : Bf (F := F) c arg13, ∃ f14' : Bf (F := F) c arg14, ∃ f15' : Bf (F := F) c arg15, ∃ f16' : Bf (F := F) c arg16, ∃ f17' : Bf (F := F) c arg17, ∃ f18' : Bf (F := F) c arg18, ∃ f19' : Bf (F := F) c arg19, ⌜InvAt arg13 arg14 arg15 arg16 arg17 arg18 B (5 * q + n + 1) c f13' f14' f15' f16' f17' f18' ∧ (n = 4 → rd arg12 f12' = outB B q) ∧ (n ≠ 4 → f12' = f12)⌝ ∗ Res arg3 arg4 arg5 arg6 arg7 arg8 arg9 arg10 arg11 arg12 arg13 arg14 arg15 arg16 arg17 arg18 arg19 c f3 f4 f5 f6 f7 f8 f9 f10 f11 f12' f13' f14' f15' f16' f17' f18' f19')

/-- The body at point `5 q + n`. -/
theorem phase (B : Blocks F) (q n : ℕ) (hn : n < 5) (c : Dev nD) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19)
    (hr : Reads arg3 arg4 arg5 arg6 arg7 arg8 arg9 arg10 arg11 B (tq q n) c f3 f4 f5 f6 f7 f8 f9 f10 f11) (hI : InvAt arg13 arg14 arg15 arg16 arg17 arg18 B (5 * q + n) c f13 f14 f15 f16 f17 f18) (Q : PUnit → sProp 𝕄) :
    iprop(Res arg3 arg4 arg5 arg6 arg7 arg8 arg9 arg10 arg11 arg12 arg13 arg14 arg15 arg16 arg17 arg18 arg19 c f3 f4 f5 f6 f7 f8 f9 f10 f11 f12 f13 f14 f15 f16 f17 f18 f19 ∗ (Post arg3 arg4 arg5 arg6 arg7 arg8 arg9 arg10 arg11 arg12 arg13 arg14 arg15 arg16 arg17 arg18 arg19 B q n c f3 f4 f5 f6 f7 f8 f9 f10 f11 f12 -∗ Q ⟨⟩)) ⊢ wp frame (wpE (defs₀ (F := F)) Variants.none (c : Thread nD τ) none) Set.univ
      (cc0_ssm_main (grid0.coords (tq q n)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  have hph : Res arg3 arg4 arg5 arg6 arg7 arg8 arg9 arg10 arg11 arg12 arg13 arg14 arg15 arg16 arg17 arg18 arg19 c f3 f4 f5 f6 f7 f8 f9 f10 f11 f12 f13 f14 f15 f16 f17 f18 f19 ⊢ wp frame (wpE (defs₀ (F := F)) Variants.none (c : Thread nD τ) none) Set.univ
      (cc0_ssm_main (grid0.coords (tq q n)) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => Post arg3 arg4 arg5 arg6 arg7 arg8 arg9 arg10 arg11 arg12 arg13 arg14 arg15 arg16 arg17 arg18 arg19 B q n c f3 f4 f5 f6 f7 f8 f9 f10 f11 f12) := by
    rcases n with _ | _ | _ | _ | _ | n
    · exact phase0 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q c f3 f4 f5 f6 f7 f8 f9 f10 f11 f12 f13 f14 f15 f16 f17 f18 f19 hr hI
    · exact phase1 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q c f3 f4 f5 f6 f7 f8 f9 f10 f11 f12 f13 f14 f15 f16 f17 f18 f19 hr hI
    · exact phase2 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q c f3 f4 f5 f6 f7 f8 f9 f10 f11 f12 f13 f14 f15 f16 f17 f18 f19 hr hI
    · exact phase3 (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q c f3 f4 f5 f6 f7 f8 f9 f10 f11 f12 f13 f14 f15 f16 f17 f18 f19 hr hI
    · by_cases hl : q % 4 = 0
      · exact phase4a (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q hl c f3 f4 f5 f6 f7 f8 f9 f10 f11 f12 f13 f14 f15 f16 f17 f18 f19 hr hI
      · exact phase4b (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 B q hl c f3 f4 f5 f6 f7 f8 f9 f10 f11 f12 f13 f14 f15 f16 f17 f18 f19 hr hI
    · omega
  refine (BI.sep_mono hph ?_).trans (wp_wand_r _ _ _ (Q := fun _ => Post arg3 arg4 arg5 arg6 arg7 arg8 arg9 arg10 arg11 arg12 arg13 arg14 arg15 arg16 arg17 arg18 arg19 B q n c f3 f4 f5 f6 f7 f8 f9 f10 f11 f12))
  exact sProp.forall_intro fun _ => .rfl

end Cert.KernelIdeal.Hand

end
-- ==== Proof.KI.Region0.lean ====
module

public import proofs.«01_k».proof.Proof.KI.Phase
public import proofs.«01_k».proof.Proof.Gen.KernelIdeal.Regions
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ)

/-- The array a window of the first call reads, as the call finds it. -/
abbrev A0 (c : Dev nD) (w : Fin cfg0.W) : Buf (Elt F) ((cfg0.win w).arr.view.loc (c : Thread nD τ)) := V1 m c (Pipeline.arrRef spec0 w)

/-- Window `w`'s block of its array at point `t`. -/
abbrev iblk (c : Dev nD) (w : Fin cfg0.W) (t : Fin cfg0.N) : ((cfg0.win w).xblock (cfg0.grid.coords t)).Idx → Elt F (cfg0.win w).elt :=
  ((cfg0.win w).blk t).view.read (Elt F) (A0 m c w)

/-- The input blocks of the first call. -/
def blocks (c : Dev nD) : Blocks F where
  x t := iblk m c 0 t
  w t := iblk m c 1 t
  cw t := iblk m c 2 t
  cb t := iblk m c 3 t
  xp t := iblk m c 4 t
  dw t := iblk m c 5 t
  db t := iblk m c 6 t
  a t := iblk m c 7 t
  d t := iblk m c 8 t

/-- The kept buffers at a point, with the buffers the call does not use. -/
def Keep (c : Dev nD) (n : ℕ) : sProp 𝕄 :=
  iprop(∃ x13 : Vec F S2x8x1024 .f32, ∃ x14 : Vec F S512x2048 .f32, ∃ x15 : Vec F S512x2048 .f32, ∃ x16 : Vec F S512x2048 .f32, ∃ x17 : Vec F S512x32 .f32, ∃ x18 : Vec F S16x2048 .f32, ∃ x19 : Vec F S1024x2048 .f32, ⌜Inv (blocks m c) n x13 x14 x15 x16 x17 x18⌝ ∗ pt c (Memref.whole cc0_scratch0) x13 ∗ pt c (Memref.whole cc0_scratch1) x14 ∗ pt c (Memref.whole cc0_scratch2) x15 ∗ pt c (Memref.whole cc0_scratch3) x16 ∗ pt c (Memref.whole cc0_scratch4) x17 ∗ pt c (Memref.whole cc0_scratch5) x18 ∗ pt c (Memref.whole cc0_scratch6) x19 ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The first call's proof data: the arrays as found, the input windows left as fetched, the output window at the block's
    result, the kept buffers. -/
def dat0 (c : Dev nD) : Dat τ (Elt F) Unit ℕ (UR sig nD τ) ℕ cfg0 c where
  A w := A0 m c w
  after w t := match w with
    | 0 => (blocks m c).x t | 1 => (blocks m c).w t | 2 => (blocks m c).cw t | 3 => (blocks m c).cb t | 4 => (blocks m c).xp t | 5 => (blocks m c).dw t | 6 => (blocks m c).db t | 7 => (blocks m c).a t | 8 => (blocks m c).d t | 9 => outB (blocks m c) (t.val / 5) | ⟨_ + 10, h⟩ => absurd h (by show ¬ _ + 10 < 10; omega)
  Φ t := Keep m c t.val
  q _ := fullShare
  owed _ := 0

/-- The call's arrays at its start. -/
theorem dat0_A (c : Dev nD) (w : Fin cfg0.W) : (dat0 m c).A w = A0 m c w := by dsimp only [dat0]
/-- Window 0 after a grid point: its block, as read. -/
theorem after0_0 (c : Dev nD) (t : Fin cfg0.N) : (dat0 m c).after 0 t = (blocks m c).x t := by dsimp only [dat0]
/-- Window 1 after a grid point: its block, as read. -/
theorem after0_1 (c : Dev nD) (t : Fin cfg0.N) : (dat0 m c).after 1 t = (blocks m c).w t := by dsimp only [dat0]
/-- Window 2 after a grid point: its block, as read. -/
theorem after0_2 (c : Dev nD) (t : Fin cfg0.N) : (dat0 m c).after 2 t = (blocks m c).cw t := by dsimp only [dat0]
/-- Window 3 after a grid point: its block, as read. -/
theorem after0_3 (c : Dev nD) (t : Fin cfg0.N) : (dat0 m c).after 3 t = (blocks m c).cb t := by dsimp only [dat0]
/-- Window 4 after a grid point: its block, as read. -/
theorem after0_4 (c : Dev nD) (t : Fin cfg0.N) : (dat0 m c).after 4 t = (blocks m c).xp t := by dsimp only [dat0]
/-- Window 5 after a grid point: its block, as read. -/
theorem after0_5 (c : Dev nD) (t : Fin cfg0.N) : (dat0 m c).after 5 t = (blocks m c).dw t := by dsimp only [dat0]
/-- Window 6 after a grid point: its block, as read. -/
theorem after0_6 (c : Dev nD) (t : Fin cfg0.N) : (dat0 m c).after 6 t = (blocks m c).db t := by dsimp only [dat0]
/-- Window 7 after a grid point: its block, as read. -/
theorem after0_7 (c : Dev nD) (t : Fin cfg0.N) : (dat0 m c).after 7 t = (blocks m c).a t := by dsimp only [dat0]
/-- Window 8 after a grid point: its block, as read. -/
theorem after0_8 (c : Dev nD) (t : Fin cfg0.N) : (dat0 m c).after 8 t = (blocks m c).d t := by dsimp only [dat0]
/-- The output window after a block: the block's result. -/
theorem after0_9 (c : Dev nD) (t : Fin cfg0.N) : (dat0 m c).after 9 t = outB (blocks m c) (t.val / 5) := by dsimp only [dat0]
/-- Window 0 before a grid point: its block, as read. -/
theorem before0_0 (c : Dev nD) (t : Fin cfg0.N) (d : (cfg0.win 0).block.Idx → Elt F (cfg0.win 0).elt) : (dat0 m c).before 0 t d = (blocks m c).x t :=
  ((dat0 m c).before_in_eq_fetched 0 rfl (fun _ => rfl) (fun _ _ _ => rfl) (fun t => by rw [after0_0]; unfold Dat.blockOf; rw [dat0_A]; rfl) t d).trans (by unfold Dat.fetched Dat.blockOf; rw [dat0_A]; rfl)
/-- Window 1 before a grid point: its block, as read. -/
theorem before0_1 (c : Dev nD) (t : Fin cfg0.N) (d : (cfg0.win 1).block.Idx → Elt F (cfg0.win 1).elt) : (dat0 m c).before 1 t d = (blocks m c).w t :=
  ((dat0 m c).before_in_eq_fetched 1 rfl (fun _ => rfl) (fun _ _ _ => rfl) (fun t => by rw [after0_1]; unfold Dat.blockOf; rw [dat0_A]; rfl) t d).trans (by unfold Dat.fetched Dat.blockOf; rw [dat0_A]; rfl)
/-- Window 2 before a grid point: its block, as read. -/
theorem before0_2 (c : Dev nD) (t : Fin cfg0.N) (d : (cfg0.win 2).block.Idx → Elt F (cfg0.win 2).elt) : (dat0 m c).before 2 t d = (blocks m c).cw t :=
  ((dat0 m c).before_in_eq_fetched 2 rfl (fun _ => rfl) (fun _ _ _ => rfl) (fun t => by rw [after0_2]; unfold Dat.blockOf; rw [dat0_A]; rfl) t d).trans (by unfold Dat.fetched Dat.blockOf; rw [dat0_A]; rfl)
/-- Window 3 before a grid point: its block, as read. -/
theorem before0_3 (c : Dev nD) (t : Fin cfg0.N) (d : (cfg0.win 3).block.Idx → Elt F (cfg0.win 3).elt) : (dat0 m c).before 3 t d = (blocks m c).cb t :=
  ((dat0 m c).before_in_eq_fetched 3 rfl (fun _ => rfl) (fun _ _ _ => rfl) (fun t => by rw [after0_3]; unfold Dat.blockOf; rw [dat0_A]; rfl) t d).trans (by unfold Dat.fetched Dat.blockOf; rw [dat0_A]; rfl)
/-- Window 4 before a grid point: its block, as read. -/
theorem before0_4 (c : Dev nD) (t : Fin cfg0.N) (d : (cfg0.win 4).block.Idx → Elt F (cfg0.win 4).elt) : (dat0 m c).before 4 t d = (blocks m c).xp t :=
  ((dat0 m c).before_in_eq_fetched 4 rfl (fun _ => rfl) (fun _ _ _ => rfl) (fun t => by rw [after0_4]; unfold Dat.blockOf; rw [dat0_A]; rfl) t d).trans (by unfold Dat.fetched Dat.blockOf; rw [dat0_A]; rfl)
/-- Window 5 before a grid point: its block, as read. -/
theorem before0_5 (c : Dev nD) (t : Fin cfg0.N) (d : (cfg0.win 5).block.Idx → Elt F (cfg0.win 5).elt) : (dat0 m c).before 5 t d = (blocks m c).dw t :=
  ((dat0 m c).before_in_eq_fetched 5 rfl (fun _ => rfl) (fun _ _ _ => rfl) (fun t => by rw [after0_5]; unfold Dat.blockOf; rw [dat0_A]; rfl) t d).trans (by unfold Dat.fetched Dat.blockOf; rw [dat0_A]; rfl)
/-- Window 6 before a grid point: its block, as read. -/
theorem before0_6 (c : Dev nD) (t : Fin cfg0.N) (d : (cfg0.win 6).block.Idx → Elt F (cfg0.win 6).elt) : (dat0 m c).before 6 t d = (blocks m c).db t :=
  ((dat0 m c).before_in_eq_fetched 6 rfl (fun _ => rfl) (fun _ _ _ => rfl) (fun t => by rw [after0_6]; unfold Dat.blockOf; rw [dat0_A]; rfl) t d).trans (by unfold Dat.fetched Dat.blockOf; rw [dat0_A]; rfl)
/-- Window 7 before a grid point: its block, as read. -/
theorem before0_7 (c : Dev nD) (t : Fin cfg0.N) (d : (cfg0.win 7).block.Idx → Elt F (cfg0.win 7).elt) : (dat0 m c).before 7 t d = (blocks m c).a t :=
  ((dat0 m c).before_in_eq_fetched 7 rfl (fun _ => rfl) (fun _ _ _ => rfl) (fun t => by rw [after0_7]; unfold Dat.blockOf; rw [dat0_A]; rfl) t d).trans (by unfold Dat.fetched Dat.blockOf; rw [dat0_A]; rfl)
/-- Window 8 before a grid point: its block, as read. -/
theorem before0_8 (c : Dev nD) (t : Fin cfg0.N) (d : (cfg0.win 8).block.Idx → Elt F (cfg0.win 8).elt) : (dat0 m c).before 8 t d = (blocks m c).d t :=
  ((dat0 m c).before_in_eq_fetched 8 rfl (fun _ => rfl) (fun _ _ _ => rfl) (fun t => by rw [after0_8]; unfold Dat.blockOf; rw [dat0_A]; rfl) t d).trans (by unfold Dat.fetched Dat.blockOf; rw [dat0_A]; rfl)

/-- Holding a whole buffer is holding its location. -/
theorem pt_whole (c : Dev nD) (b : Ref sig .tc) (f : Buf (Elt F) ((c : Thread nD τ).loc b)) :
    (pt c (Memref.whole b) f : sProp 𝕄) = (((c : Thread nD τ).loc b) ↦{fullShare} f) := by
  unfold pt; simp only [Memref.view_whole, View.set_whole]

/-- The output window is idle but at the last phase, where it is written back. -/
theorem idle9 (t : Fin cfg0.N) (h : t.val % 5 ≠ 4) : cfg0.idle 9 (cfg0.grid.coords t) = true := by
  have := mt (cond_facts t).2.2.2.2.2.1.mp h
  show (!(k0_cond6 (grid0.coords t) == 1#1)) = true
  rw [beq_eq_false_iff_ne.mpr this]; rfl

/-- At the last phase the output window is in use. -/
theorem busy9 (t : Fin cfg0.N) (h : t.val % 5 = 4) : cfg0.idle 9 (cfg0.grid.coords t) = false := by
  have := (cond_facts t).2.2.2.2.2.1.mpr h
  show (!(k0_cond6 (grid0.coords t) == 1#1)) = false
  rw [this]; rfl

/-- At no other phase is it written back. -/
theorem noflush9 (t : Fin cfg0.N) (h : t.val % 5 ≠ 4) : (cfg0.win 9).flush t = false := by
  have := mt (flush0_9 t).mp h
  simpa using this

/-- What the body leaves of the output window. -/
def left9 (c : Dev nD) (t : Fin cfg0.N) : sProp 𝕄 :=
  match cfg0.idle 9 (cfg0.grid.coords t) with
  | true =>
    match (cfg0.win 9).flush t with
    | false => iprop(∃ d, owns c ((cfg0.win 9).stage (cfg0.slots t 9)) fullShare ((dat0 m c).before 9 t d))
    | true => owns c ((cfg0.win 9).stage (cfg0.slots t 9)) fullShare ((dat0 m c).after 9 t)
  | false => owns c ((cfg0.win 9).stage (cfg0.slots t 9)) fullShare ((dat0 m c).after 9 t)

/-- What is left of the output window before the last phase. -/
theorem left9_idle (c : Dev nD) (t : Fin cfg0.N) (h : t.val % 5 ≠ 4) :
    left9 m c t = iprop(∃ d, owns c ((cfg0.win 9).stage (cfg0.slots t 9)) fullShare ((dat0 m c).before 9 t d)) := by
  unfold left9; rw [idle9 t h, noflush9 t h]

/-- What is left of it at the last phase. -/
theorem left9_busy (c : Dev nD) (t : Fin cfg0.N) (h : t.val % 5 = 4) :
    left9 m c t = owns c ((cfg0.win 9).stage (cfg0.slots t 9)) fullShare ((dat0 m c).after 9 t) := by
  unfold left9; rw [busy9 t h]

/-- Every grid point is a phase of a block. -/
theorem split_point (t : Fin grid0.N) : ∃ q n, q < 8 ∧ n < 5 ∧ t = tq q n := by
  have h : t.val < 40 := t.isLt
  refine ⟨t.val / 5, t.val % 5, by omega, by omega, Fin.ext ?_⟩
  show t.val = (5 * (t.val / 5) + t.val % 5) % 40
  omega

/-- The call owes no signal from one grid point to the next. -/
theorem owes0 (c : Dev nD) (t : Fin cfg0.N) : (dat0 m c).owesAt () t.castSucc ⊢ (dat0 m c).owesAt () t.succ := by
  unfold Dat.owesAt Pipeline.owesWithin
  rw [show (dat0 m c).owed t.castSucc = 0 from rfl, show (dat0 m c).owed t.succ = 0 from rfl]
  iintro ⟨%W, -, HO⟩
  iexists W
  isplitr; · ipureintro; exact fun _ _ => Or.inl trivial
  iexact HO

/-- The body at a point: from the windows' blocks and the kept buffers to the next point's. -/
theorem body0_core (c : Dev nD) (t : Fin cfg0.N) :
    iprop(Keep m c t.val ∗ (dat0 m c).owesAt () t.castSucc ∗ (∃ d, owns c ((cfg0.win 0).stage (cfg0.slots t 0)) fullShare ((dat0 m c).before 0 t d)) ∗ (∃ d, owns c ((cfg0.win 1).stage (cfg0.slots t 1)) fullShare ((dat0 m c).before 1 t d)) ∗ (∃ d, owns c ((cfg0.win 2).stage (cfg0.slots t 2)) fullShare ((dat0 m c).before 2 t d)) ∗ (∃ d, owns c ((cfg0.win 3).stage (cfg0.slots t 3)) fullShare ((dat0 m c).before 3 t d)) ∗ (∃ d, owns c ((cfg0.win 4).stage (cfg0.slots t 4)) fullShare ((dat0 m c).before 4 t d)) ∗ (∃ d, owns c ((cfg0.win 5).stage (cfg0.slots t 5)) fullShare ((dat0 m c).before 5 t d)) ∗ (∃ d, owns c ((cfg0.win 6).stage (cfg0.slots t 6)) fullShare ((dat0 m c).before 6 t d)) ∗ (∃ d, owns c ((cfg0.win 7).stage (cfg0.slots t 7)) fullShare ((dat0 m c).before 7 t d)) ∗ (∃ d, owns c ((cfg0.win 8).stage (cfg0.slots t 8)) fullShare ((dat0 m c).before 8 t d)) ∗ (∃ d, owns c ((cfg0.win 9).stage (cfg0.slots t 9)) fullShare ((dat0 m c).before 9 t d)))
    ⊢ wp frame (wpE (defs₀ (F := F)) Variants.none (c : Thread nD τ) none) Set.univ (bodyAt0 t)
      (fun _ => iprop(Keep m c (t.val + 1) ∗ (dat0 m c).owesAt () t.succ ∗ owns c ((cfg0.win 0).stage (cfg0.slots t 0)) fullShare ((dat0 m c).after 0 t) ∗ owns c ((cfg0.win 1).stage (cfg0.slots t 1)) fullShare ((dat0 m c).after 1 t) ∗ owns c ((cfg0.win 2).stage (cfg0.slots t 2)) fullShare ((dat0 m c).after 2 t) ∗ owns c ((cfg0.win 3).stage (cfg0.slots t 3)) fullShare ((dat0 m c).after 3 t) ∗ owns c ((cfg0.win 4).stage (cfg0.slots t 4)) fullShare ((dat0 m c).after 4 t) ∗ owns c ((cfg0.win 5).stage (cfg0.slots t 5)) fullShare ((dat0 m c).after 5 t) ∗ owns c ((cfg0.win 6).stage (cfg0.slots t 6)) fullShare ((dat0 m c).after 6 t) ∗ owns c ((cfg0.win 7).stage (cfg0.slots t 7)) fullShare ((dat0 m c).after 7 t) ∗ owns c ((cfg0.win 8).stage (cfg0.slots t 8)) fullShare ((dat0 m c).after 8 t) ∗ left9 m c t)) := by
  obtain ⟨q, n, hq, hn, ht⟩ := split_point t
  have hv : t.val = 5 * q + n := by rw [ht]; exact tq_val q n hq hn
  unfold Keep owns
  iintro ⟨⟨%x13, %x14, %x15, %x16, %x17, %x18, %x19, %hI, K13, K14, K15, K16, K17, K18, K19, HR⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩⟩
  ihave HO := (owes0 m c t) $$ HO
  rw [before0_0] at hf0
  rw [before0_1] at hf1
  rw [before0_2] at hf2
  rw [before0_3] at hf3
  rw [before0_4] at hf4
  rw [before0_5] at hf5
  rw [before0_6] at hf6
  rw [before0_7] at hf7
  rw [before0_8] at hf8
  rw [hv] at hI
  have hph := phase (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (blocks m c) q n hn c f0 f1 f2 f3 f4 f5 f6 f7 f8 f9 x13 x14 x15 x16 x17 x18 x19 (by rw [← ht]; exact ⟨hf0, hf1, hf2, hf3, hf4, hf5, hf6, hf7, hf8⟩) hI
  rw [← ht] at hph
  iapply (hph _)
  isplitl [H0 H1 H2 H3 H4 H5 H6 H7 H8 H9 K13 K14 K15 K16 K17 K18 K19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [K13]; · iexact K13
    isplitl [K14]; · iexact K14
    isplitl [K15]; · iexact K15
    isplitl [K16]; · iexact K16
    isplitl [K17]; · iexact K17
    isplitl [K18]; · iexact K18
    iexact K19
  iintro ⟨%g9, %y13, %y14, %y15, %y16, %y17, %y18, %y19, %hp, H0, H1, H2, H3, H4, H5, H6, H7, H8, H9, K13, K14, K15, K16, K17, K18, K19⟩
  isplitl [K13 K14 K15 K16 K17 K18 K19 HR]
  · iexists y13
    iexists y14
    iexists y15
    iexists y16
    iexists y17
    iexists y18
    iexists y19
    isplitr; · ipureintro; rw [hv]; exact hp.1
    isplitl [K13]; · iexact K13
    isplitl [K14]; · iexact K14
    isplitl [K15]; · iexact K15
    isplitl [K16]; · iexact K16
    isplitl [K17]; · iexact K17
    isplitl [K18]; · iexact K18
    isplitl [K19]; · iexact K19
    iexact HR
  isplitl [HO]; · iexact HO
  isplitl [H0]
  · iexists f0; isplitr; · ipureintro; rw [after0_0]; exact hf0
    iexact H0
  isplitl [H1]
  · iexists f1; isplitr; · ipureintro; rw [after0_1]; exact hf1
    iexact H1
  isplitl [H2]
  · iexists f2; isplitr; · ipureintro; rw [after0_2]; exact hf2
    iexact H2
  isplitl [H3]
  · iexists f3; isplitr; · ipureintro; rw [after0_3]; exact hf3
    iexact H3
  isplitl [H4]
  · iexists f4; isplitr; · ipureintro; rw [after0_4]; exact hf4
    iexact H4
  isplitl [H5]
  · iexists f5; isplitr; · ipureintro; rw [after0_5]; exact hf5
    iexact H5
  isplitl [H6]
  · iexists f6; isplitr; · ipureintro; rw [after0_6]; exact hf6
    iexact H6
  isplitl [H7]
  · iexists f7; isplitr; · ipureintro; rw [after0_7]; exact hf7
    iexact H7
  isplitl [H8]
  · iexists f8; isplitr; · ipureintro; rw [after0_8]; exact hf8
    iexact H8
  by_cases h4 : n = 4
  · rw [left9_busy m c t (by omega), after0_9]
    unfold owns
    iexists g9; isplitr
    · ipureintro; exact (hp.2.1 h4).trans (by rw [show t.val / 5 = q by omega])
    iexact H9
  · obtain rfl := hp.2.2 h4
    rw [left9_idle m c t (by omega)]
    unfold owns
    iexists d9; iexists g9; isplitr
    · ipureintro; exact hf9
    iexact H9

/-- The body at every grid point does what the phases say. -/
theorem body0 (c : Dev nD) : BodyObligation (dat0 m c) (defs₀ (F := F)) Variants.none () Set.univ := fun t => by
  rw [bigSep_W0, bigSep_W0]
  exact body0_core m c t

end Cert.KernelIdeal.Hand

end
-- ==== Proof.KI.Region1.lean ====
module

public import proofs.«01_k».proof.Proof.KI.Region0
public import proofs.«01_k».proof.Proof.Gen.KernelIdeal.Regions
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- The second call's body: the product of its two blocks, stored over the whole result block. -/
theorem run_out (arg2 : Memref sig .tc .vmem S1x512x2048 .f32) (harg2 : arg2.IsWhole) (arg3 : Memref sig .tc .vmem S2048x1024 .bf16) (harg3 : arg3.IsWhole)
    (arg4 : Memref sig .tc .vmem S1x512x1024 .f32) (harg4 : arg4.IsWhole) (c : Dev nD) (i : grid1.Coords)
    (f2 : Bf (F := F) c arg2) (f3 : Bf (F := F) c arg3) (f4 : Bf (F := F) c arg4) (Q : PUnit → sProp 𝕄) :
    iprop(pt c arg2 f2 ∗ pt c arg3 f3 ∗ pt c arg4 f4 ∗ (iprop(pt c arg2 f2 ∗ pt c arg3 f3 ∗ ∃ f4', ⌜rd arg4 f4' = k1_pay1 (rd arg2 f2) (rd arg3 f3)⌝ ∗ pt c arg4 f4') -∗ Q ⟨⟩))
    ⊢ wp frame (wpE (defs₀ (F := F)) Variants.none (c : Thread nD τ) none) Set.univ (cc1_ssm_out i arg2 harg2 arg3 harg3 arg4 harg4) Q := by
  rw [cc1_ssm_out_eq_skeleton]
  unfold cc1_ssm_out_skel
  iintro ⟨H2, H3, H4, Hk⟩
  sl_exec
  sl_step
  iapply Hk
  isplitl [H2]; · iexact H2
  isplitl [H3]; · iexact H3
  iexists _
  isplitr; swap; · iexact H4
  ipureintro
  dsimp only [rd]
  rw [View.read_writes_full]
  repeat rw [View.readAt_full]

variable (m : (ℓ : Loc nD τ sig) → Buf (Elt F) ℓ)

/-- The result array of the first call, as the call leaves it. -/
def fin0 (c : Dev nD) : Buf (Elt F) ((c : Thread nD τ).loc main_v6) := (dat0 m c).arrAt 9 cfg0.N

/-- The buffers after the first call. -/
def W2 (c : Dev nD) : Valuation τ sig (Elt F) := Function.update (V1 m c) main_v6 (fin0 m c)

/-- The array a window of the second call reads, as the call finds it. -/
abbrev A1 (c : Dev nD) (w : Fin cfg1.W) : Buf (Elt F) ((cfg1.win w).arr.view.loc (c : Thread nD τ)) := W2 m c (Pipeline.arrRef spec1 w)

/-- Window `w`'s block of its array at point `t` of the second call. -/
abbrev jblk (c : Dev nD) (w : Fin cfg1.W) (t : Fin cfg1.N) : ((cfg1.win w).xblock (cfg1.grid.coords t)).Idx → Elt F (cfg1.win w).elt :=
  ((cfg1.win w).blk t).view.read (Elt F) (A1 m c w)

/-- The left operand's block of the second call. -/
def yblk (c : Dev nD) (t : Fin cfg1.N) : Vec F S1x512x2048 .f32 := jblk m c 0 t
/-- The right operand's block of the second call. -/
def oblk (c : Dev nD) (t : Fin cfg1.N) : Vec F S2048x1024 .bf16 := jblk m c 1 t

/-- The second call's proof data: the input windows left as fetched, the output window at the product, the other scoped
    buffers at anything. -/
def dat1 (c : Dev nD) : Dat τ (Elt F) Unit ℕ (UR sig nD τ) ℕ cfg1 c where
  A w := A1 m c w
  after w t := match w with
    | 0 => yblk m c t | 1 => oblk m c t | 2 => k1_pay1 (yblk m c t) (oblk m c t) | ⟨_ + 3, h⟩ => absurd h (by show ¬ _ + 3 < 3; omega)
  Φ _ := Pipeline.scopedRest spec1 c
  q _ := fullShare
  owed _ := 0

/-- The call's arrays at its start. -/
theorem dat1_A (c : Dev nD) (w : Fin cfg1.W) : (dat1 m c).A w = A1 m c w := by dsimp only [dat1]
/-- The scan's block after a grid point. -/
theorem after1_0 (c : Dev nD) (t : Fin cfg1.N) : (dat1 m c).after 0 t = yblk m c t := by dsimp only [dat1]
/-- The output projection's weights after a grid point. -/
theorem after1_1 (c : Dev nD) (t : Fin cfg1.N) : (dat1 m c).after 1 t = oblk m c t := by dsimp only [dat1]
/-- The output window after a grid point: the product. -/
theorem after1_2 (c : Dev nD) (t : Fin cfg1.N) : (dat1 m c).after 2 t = k1_pay1 (yblk m c t) (oblk m c t) := by dsimp only [dat1]
/-- The scan's block before a grid point. -/
theorem before1_0 (c : Dev nD) (t : Fin cfg1.N) (d : (cfg1.win 0).block.Idx → Elt F (cfg1.win 0).elt) : (dat1 m c).before 0 t d = yblk m c t :=
  ((dat1 m c).before_in_eq_fetched 0 rfl (fun _ => rfl) (fun _ _ _ => rfl) (fun t => by rw [after1_0]; unfold Dat.blockOf; rw [dat1_A]; rfl) t d).trans (by unfold Dat.fetched Dat.blockOf; rw [dat1_A]; rfl)
/-- The output projection's weights before a grid point. -/
theorem before1_1 (c : Dev nD) (t : Fin cfg1.N) (d : (cfg1.win 1).block.Idx → Elt F (cfg1.win 1).elt) : (dat1 m c).before 1 t d = oblk m c t :=
  ((dat1 m c).before_in_eq_fetched 1 rfl (fun _ => rfl) (fun _ _ _ => rfl) (fun t => by rw [after1_1]; unfold Dat.blockOf; rw [dat1_A]; rfl) t d).trans (by unfold Dat.fetched Dat.blockOf; rw [dat1_A]; rfl)

/-- The call owes no signal from one grid point to the next. -/
theorem owes1 (c : Dev nD) (t : Fin cfg1.N) : (dat1 m c).owesAt () t.castSucc ⊢ (dat1 m c).owesAt () t.succ := by
  unfold Dat.owesAt Pipeline.owesWithin
  rw [show (dat1 m c).owed t.castSucc = 0 from rfl, show (dat1 m c).owed t.succ = 0 from rfl]
  iintro ⟨%W, -, HO⟩
  iexists W
  isplitr; · ipureintro; exact fun _ _ => Or.inl trivial
  iexact HO

/-- The second call's body at a point. -/
theorem body1_core (c : Dev nD) (t : Fin cfg1.N) :
    iprop((dat1 m c).Φ t.castSucc ∗ (dat1 m c).owesAt () t.castSucc ∗ (∃ d, owns c ((cfg1.win 0).stage (cfg1.slots t 0)) fullShare ((dat1 m c).before 0 t d)) ∗ (∃ d, owns c ((cfg1.win 1).stage (cfg1.slots t 1)) fullShare ((dat1 m c).before 1 t d)) ∗ (∃ d, owns c ((cfg1.win 2).stage (cfg1.slots t 2)) fullShare ((dat1 m c).before 2 t d)))
    ⊢ wp frame (wpE (defs₀ (F := F)) Variants.none (c : Thread nD τ) none) Set.univ (bodyAt1 t)
      (fun _ => iprop((dat1 m c).Φ t.succ ∗ (dat1 m c).owesAt () t.succ ∗ owns c ((cfg1.win 0).stage (cfg1.slots t 0)) fullShare ((dat1 m c).after 0 t) ∗ owns c ((cfg1.win 1).stage (cfg1.slots t 1)) fullShare ((dat1 m c).after 1 t) ∗ owns c ((cfg1.win 2).stage (cfg1.slots t 2)) fullShare ((dat1 m c).after 2 t))) := by
  rw [show (dat1 m c).Φ t.castSucc = (dat1 m c).Φ t.succ from rfl]
  unfold owns
  iintro ⟨HΦ, HO, ⟨%d0, %f0, %hf0, H0⟩, ⟨%d1, %f1, %hf1, H1⟩, ⟨%d2, %f2, %hf2, H2⟩⟩
  ihave HO := (owes1 m c t) $$ HO
  rw [before1_0] at hf0
  rw [before1_1] at hf1
  iapply (run_out (F := F) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) c (grid1.coords t) f0 f1 f2)
  isplitl [H0]; · iexact H0
  isplitl [H1]; · iexact H1
  isplitl [H2]; · iexact H2
  iintro ⟨H0, H1, %g2, %hg, H2⟩
  isplitl [HΦ]; · iexact HΦ
  isplitl [HO]; · iexact HO
  isplitl [H0]
  · iexists f0; isplitr; · ipureintro; rw [after1_0]; exact hf0
    iexact H0
  isplitl [H1]
  · iexists f1; isplitr; · ipureintro; rw [after1_1]; exact hf1
    iexact H1
  iexists g2; isplitr
  · ipureintro; rw [after1_2, ← hf0, ← hf1]; exact hg
  iexact H2

/-- The body at every grid point multiplies its blocks. -/
theorem body1 (c : Dev nD) : BodyObligation (dat1 m c) (defs₀ (F := F)) Variants.none () Set.univ := fun t => by
  rw [bigSep_W1, bigSep_W1]
  exact body1_core m c t

end Cert.KernelIdeal.Hand

end
-- ==== Proof.KI.Segs.lean ====
module

public import proofs.«01_k».proof.Proof.KI.Region1
public import Idealize.ShloMosaic.Lib.Pipeline.RegionArrays
public import proofs.«01_k».proof.Proof.Gen.KernelIdeal.Regions
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ)

/-- The result array of the second call, as the call leaves it. -/
def fin1 (c : Dev nD) : Buf (Elt F) ((c : Thread nD τ).loc main_v7) := (dat1 m c).arrAt 2 cfg1.N

/-- The buffers after the second call. -/
def W3 (c : Dev nD) : Valuation τ sig (Elt F) := Function.update (W2 m c) main_v7 (fin1 m c)

/-- What the calls leave in their result arrays. -/
abbrev outsOf : Outs (F := F) := fun _ r c => W3 m c r

/-- The first call's result after it. -/
theorem W2_v6 (c : Dev nD) : W2 m c main_v6 = fin0 m c := by unfold W2; exact Function.update_self ..
/-- The second call's result after it. -/
theorem W3_v7 (c : Dev nD) : W3 m c main_v7 = fin1 m c := by unfold W3; exact Function.update_self ..
/-- The first call changes nothing else. -/
theorem W2_of (c : Dev nD) (b : DevRef τ sig) (h : b ≠ main_v6) : W2 m c b = V1 m c b := by unfold W2; exact Function.update_of_ne h _ _
/-- Nor does the second. -/
theorem W3_of (c : Dev nD) (b : DevRef τ sig) (h : b ≠ main_v7) : W3 m c b = W2 m c b := by unfold W3; exact Function.update_of_ne h _ _

/-- The buffers after the first call, from its result alone. -/
theorem V2_eq (c : Dev nD) : V2 m (outsOf m) c = W2 m c := by
  unfold V2 W2
  rw [show outsOf m 2 main_v6 c = fin0 m c from (W3_of m c main_v6 (by decide)).trans (W2_v6 m c)]
/-- The buffers after the second call, likewise. -/
theorem V3_eq (c : Dev nD) : V3 m (outsOf m) c = W3 m c := by
  unfold V3
  rw [V2_eq, show outsOf m 3 main_v7 c = fin1 m c from W3_v7 m c]
  unfold W3; rfl

/-- The two calls' proof data. -/
def pdats : (p : Fin 2) → (c : Dev nD) → Dat τ (Elt F) Unit ℕ (UR sig nD τ) ℕ (cfgs p) c
  | 0 => dat0 m
  | 1 => dat1 m

/-- Levels: one, the same, at every TensorCore semaphore; no core owes anything. -/
abbrev Lv : GSem nD τ sig → Finset Unit := fun g => if g.1.2 = .tc then {()} else ∅
/-- The one level. -/
abbrev lvl : GSem nD τ sig → Unit → ℕ := fun _ _ => 0

/-- Each call stays within these levels. -/
theorem cut (p : Fin 2) : Pipeline.LevelCut (pcfgs (F := F)) adm () Lv lvl p (fun _ => 0) (fun _ => 0) where
  hι _ _ _ := by simp [Lv]
  hιb _ _ _ := le_refl _
  hD _ _ _ h := absurd h (by simp)

/-- A core's dues: none. -/
abbrev Owes (c : Dev nD) : sProp 𝕄 := iprop(∃ W, owes (c : Thread nD τ) (0 : CellTallies nD τ sig Unit) W)

/-- The unscoped buffers that are no array of call `p`, held at `W`. -/
def others (p : Fin 2) (W : Valuation τ sig (Elt F)) (c : Dev nD) : sProp 𝕄 :=
  StableHlo.held (c : Thread nD τ) (Pipeline.ucRefs τ sig \ Pipeline.arrRefs (τ := τ) ((pcfgs (F := F)) p).spec) W

/-- The unscoped buffers are call `p`'s arrays and the others. -/
theorem held_split (p : Fin 2) (hw : ∀ w, (Pipeline.arrRef ((pcfgs (F := F)) p).spec w).isScoped = false) (W : Valuation τ sig (Elt F)) (c : Dev nD) :
    (StableHlo.held (c : Thread nD τ) (Pipeline.ucRefs τ sig) W : sProp 𝕄)
      = iprop(StableHlo.held (c : Thread nD τ) (Pipeline.arrRefs (τ := τ) ((pcfgs (F := F)) p).spec) W ∗ others p W c) := by
  unfold others StableHlo.held
  exact BI.bigSep_sdiff_split (Pipeline.arrRefs_sub_ucRefs _ hw)

/-- The others are held at any valuation that agrees off one array of the call. -/
theorem others_congr (p : Fin 2) (W W' : Valuation τ sig (Elt F)) (b : DevRef τ sig) (hb : b ∈ Pipeline.arrRefs (τ := τ) ((pcfgs (F := F)) p).spec)
    (h : ∀ b', b' ≠ b → W' b' = W b') (c : Dev nD) : (others p W c : sProp 𝕄) = others p W' c := by
  unfold others StableHlo.held
  refine BI.bigSep_congr fun x hx => ?_
  rw [h x (fun e => (Finset.mem_sdiff.mp hx).2 (e ▸ hb))]

/-- A location held is a whole buffer held. -/
theorem pt_of (c : Dev nD) (b : Ref sig .tc) (f : Buf (Elt F) ((c : Thread nD τ).loc b)) :
    (((c : Thread nD τ).loc b) ↦{fullShare} f : sProp 𝕄) ⊢ pt c (Memref.whole b) f := Entails.of_eq (pt_whole c b f).symm
/-- And the other way round. -/
theorem pt_to (c : Dev nD) (b : Ref sig .tc) (f : Buf (Elt F) ((c : Thread nD τ).loc b)) :
    (pt c (Memref.whole b) f : sProp 𝕄) ⊢ ((c : Thread nD τ).loc b) ↦{fullShare} f := Entails.of_eq (pt_whole c b f)

/-- The first call's invariant at its first point, from the scoped buffers at anything. -/
theorem hin0 (c : Dev nD) : iprop(Pipeline.scopedRest spec0 c ∗ BI.emp) ⊢ ((dat0 m c).Φ 0 : sProp 𝕄) := by
  rw [show (dat0 m c).Φ 0 = Keep m c 0 from rfl, scopedRest0_eq]
  unfold Keep
  iintro ⟨⟨⟨%x13, H13⟩, ⟨%x14, H14⟩, ⟨%x15, H15⟩, ⟨%x16, H16⟩, ⟨%x17, H17⟩, ⟨%x18, H18⟩, ⟨%x19, H19⟩, HR⟩, -⟩
  iexists x13; iexists x14; iexists x15; iexists x16; iexists x17; iexists x18; iexists x19
  isplitr; · ipureintro; exact inv_zero ..
  isplitl [H13]; · iapply (pt_of c cc0_scratch0 x13); iexact H13
  isplitl [H14]; · iapply (pt_of c cc0_scratch1 x14); iexact H14
  isplitl [H15]; · iapply (pt_of c cc0_scratch2 x15); iexact H15
  isplitl [H16]; · iapply (pt_of c cc0_scratch3 x16); iexact H16
  isplitl [H17]; · iapply (pt_of c cc0_scratch4 x17); iexact H17
  isplitl [H18]; · iapply (pt_of c cc0_scratch5 x18); iexact H18
  isplitl [H19]; · iapply (pt_of c cc0_scratch6 x19); iexact H19
  iexact HR

/-- The first call's invariant at its last point gives the scoped buffers back. -/
theorem hout0 (c : Dev nD) : ((dat0 m c).Φ (Fin.last cfg0.N) : sProp 𝕄) ⊢ iprop(Pipeline.scopedRest spec0 c ∗ BI.emp) := by
  rw [show (dat0 m c).Φ (Fin.last cfg0.N) = Keep m c (Fin.last cfg0.N).val from rfl, scopedRest0_eq]
  unfold Keep
  iintro ⟨%x13, %x14, %x15, %x16, %x17, %x18, %x19, -, H13, H14, H15, H16, H17, H18, H19, HR⟩
  isplitl
  · isplitl [H13]; · iexists x13; iapply (pt_to c cc0_scratch0 x13); iexact H13
    isplitl [H14]; · iexists x14; iapply (pt_to c cc0_scratch1 x14); iexact H14
    isplitl [H15]; · iexists x15; iapply (pt_to c cc0_scratch2 x15); iexact H15
    isplitl [H16]; · iexists x16; iapply (pt_to c cc0_scratch3 x16); iexact H16
    isplitl [H17]; · iexists x17; iapply (pt_to c cc0_scratch4 x17); iexact H17
    isplitl [H18]; · iexists x18; iapply (pt_to c cc0_scratch5 x18); iexact H18
    isplitl [H19]; · iexists x19; iapply (pt_to c cc0_scratch6 x19); iexact H19
    iexact HR
  iempintro

/-- The second call starts with the buffers of its own. -/
theorem hin1 (c : Dev nD) : iprop(Pipeline.scopedRest spec1 c ∗ BI.emp) ⊢ ((dat1 m c).Φ 0 : sProp 𝕄) := by
  rw [show (dat1 m c).Φ 0 = Pipeline.scopedRest spec1 c from rfl]
  iintro ⟨H, -⟩; iexact H
/-- It gives them back at its end. -/
theorem hout1 (c : Dev nD) : ((dat1 m c).Φ (Fin.last cfg1.N) : sProp 𝕄) ⊢ iprop(Pipeline.scopedRest spec1 c ∗ BI.emp) := by
  rw [show (dat1 m c).Φ (Fin.last cfg1.N) = Pipeline.scopedRest spec1 c from rfl]
  iintro H
  isplitl
  · iexact H
  iempintro

/-- The first call's arrays live outside it. -/
theorem unscoped0 : ∀ w, (Pipeline.arrRef spec0 w).isScoped = false := by decide
/-- So do the second's. -/
theorem unscoped1 : ∀ w, (Pipeline.arrRef spec1 w).isScoped = false := by decide
/-- The first call's result is among its arrays. -/
theorem mem_v6 : (Proc.devRef .tc main_v6 : DevRef τ sig) ∈ Pipeline.arrRefs (τ := τ) spec0 := by decide
/-- The second call's result is among its arrays. -/
theorem mem_v7 : (Proc.devRef .tc main_v7 : DevRef τ sig) ∈ Pipeline.arrRefs (τ := τ) spec1 := by decide

/-- Each window's array after the first call is where the valuation after it has it. -/
theorem arr0 (c : Dev nD) (w : Fin cfg0.W) : (dat0 m c).arrAt w cfg0.N = W2 m c (Proc.devRef .tc (Pipeline.arrRef spec0 w)) := by
  match w with
  | 9 => exact (W2_v6 m c).symm
  | 0 => exact ((dat0 m c).arrAt_in 0 rfl _).trans ((dat0_A m c 0).trans (W2_of m c _ (by decide)).symm)
  | 1 => exact ((dat0 m c).arrAt_in 1 rfl _).trans ((dat0_A m c 1).trans (W2_of m c _ (by decide)).symm)
  | 2 => exact ((dat0 m c).arrAt_in 2 rfl _).trans ((dat0_A m c 2).trans (W2_of m c _ (by decide)).symm)
  | 3 => exact ((dat0 m c).arrAt_in 3 rfl _).trans ((dat0_A m c 3).trans (W2_of m c _ (by decide)).symm)
  | 4 => exact ((dat0 m c).arrAt_in 4 rfl _).trans ((dat0_A m c 4).trans (W2_of m c _ (by decide)).symm)
  | 5 => exact ((dat0 m c).arrAt_in 5 rfl _).trans ((dat0_A m c 5).trans (W2_of m c _ (by decide)).symm)
  | 6 => exact ((dat0 m c).arrAt_in 6 rfl _).trans ((dat0_A m c 6).trans (W2_of m c _ (by decide)).symm)
  | 7 => exact ((dat0 m c).arrAt_in 7 rfl _).trans ((dat0_A m c 7).trans (W2_of m c _ (by decide)).symm)
  | 8 => exact ((dat0 m c).arrAt_in 8 rfl _).trans ((dat0_A m c 8).trans (W2_of m c _ (by decide)).symm)

/-- Each window's array after the second call is where the valuation after it has it. -/
theorem arr1 (c : Dev nD) (w : Fin cfg1.W) : (dat1 m c).arrAt w cfg1.N = W3 m c (Proc.devRef .tc (Pipeline.arrRef spec1 w)) := by
  match w with
  | 2 => exact (W3_v7 m c).symm
  | 0 => exact ((dat1 m c).arrAt_in 0 rfl _).trans ((dat1_A m c 0).trans (W3_of m c _ (by decide)).symm)
  | 1 => exact ((dat1 m c).arrAt_in 1 rfl _).trans ((dat1_A m c 1).trans (W3_of m c _ (by decide)).symm)

set_option backward.isDefEq.respectTransparency.types false in
/-- The first call as a segment of the program. -/
def reg0 : Pipeline.RegionSeg (pcfgs (F := F)) adm (pdats m) () defs₀ Variants.none Lv lvl 0 :=
  Pipeline.RegionSeg.ofHeld (pcfgs (F := F)) adm (pdats m) () defs₀ Variants.none Lv lvl 0 (fun _ => 0) (fun _ => BI.emp) (fun _ => BI.emp)
    launch0.toP rfl (fun c => (body0 m c).loose) (fun _ _ => rfl) (fun _ => rfl) (fun c => (dat0 m c).share_full fun _ => rfl)
    (hin0 m) (hout0 m) (fun _ => 0) (cut 0) (fun c => others 0 (V1 m c) c) (fun c => V1 m c) (fun c => W2 m c)
    (fun c w => dat0_A m c w) (arr0 m)

set_option backward.isDefEq.respectTransparency.types false in
/-- The second call as a segment of the program. -/
def reg1 : Pipeline.RegionSeg (pcfgs (F := F)) adm (pdats m) () defs₀ Variants.none Lv lvl 1 :=
  Pipeline.RegionSeg.ofHeld (pcfgs (F := F)) adm (pdats m) () defs₀ Variants.none Lv lvl 1 (fun _ => 0) (fun _ => BI.emp) (fun _ => BI.emp)
    launch1.toP rfl (fun c => (body1 m c).loose) (fun _ _ => rfl) (fun _ => rfl) (fun c => (dat1 m c).share_full fun _ => rfl)
    (hin1 m) (hout1 m) (fun _ => 0) (cut 1) (fun c => others 1 (W2 m c) c) (fun c => W2 m c) (fun c => W3 m c)
    (fun c w => dat1_A m c w) (arr1 m)

/-- What the host holds is what the first call needs. -/
theorem pre0 (c : Dev nD) : iprop(StableHlo.held (c : Thread nD τ) (Pipeline.ucRefs τ sig) (V1 m c) ∗ Owes c) ⊢ (reg0 m).pre c := by
  rw [held_split 0 unscoped0]
  show _ ⊢ iprop(StableHlo.held (c : Thread nD τ) (Pipeline.arrRefs (τ := τ) spec0) (V1 m c) ∗ BI.emp ∗ others 0 (V1 m c) c ∗ Owes c)
  iintro ⟨⟨Ha, Hr⟩, HO⟩
  isplitl [Ha]; · iexact Ha
  isplitr; · iempintro
  isplitl [Hr]; · iexact Hr
  iexact HO

/-- What the first call leaves is what the host holds after it. -/
theorem post0 (c : Dev nD) : (reg0 m).post c ⊢ iprop(StableHlo.held (c : Thread nD τ) (Pipeline.ucRefs τ sig) (W2 m c) ∗ Owes c) := by
  rw [held_split 0 unscoped0, ← others_congr 0 (V1 m c) (W2 m c) main_v6 mem_v6 (fun b h => W2_of m c b h)]
  show iprop(StableHlo.held (c : Thread nD τ) (Pipeline.arrRefs (τ := τ) spec0) (W2 m c) ∗ BI.emp ∗ others 0 (V1 m c) c ∗ Owes c) ⊢ _
  iintro ⟨Ha, -, Hr, HO⟩
  isplitr [HO]
  · isplitl [Ha]; · iexact Ha
    iexact Hr
  iexact HO

/-- What the host holds is what the second call needs. -/
theorem pre1 (c : Dev nD) : iprop(StableHlo.held (c : Thread nD τ) (Pipeline.ucRefs τ sig) (W2 m c) ∗ Owes c) ⊢ (reg1 m).pre c := by
  rw [held_split 1 unscoped1]
  show _ ⊢ iprop(StableHlo.held (c : Thread nD τ) (Pipeline.arrRefs (τ := τ) spec1) (W2 m c) ∗ BI.emp ∗ others 1 (W2 m c) c ∗ Owes c)
  iintro ⟨⟨Ha, Hr⟩, HO⟩
  isplitl [Ha]; · iexact Ha
  isplitr; · iempintro
  isplitl [Hr]; · iexact Hr
  iexact HO

/-- What the second call leaves is what the host holds after it. -/
theorem post1 (c : Dev nD) : (reg1 m).post c ⊢ iprop(StableHlo.held (c : Thread nD τ) (Pipeline.ucRefs τ sig) (W3 m c) ∗ Owes c) := by
  rw [held_split 1 unscoped1, ← others_congr 1 (W2 m c) (W3 m c) main_v7 mem_v7 (fun b h => W3_of m c b h)]
  show iprop(StableHlo.held (c : Thread nD τ) (Pipeline.arrRefs (τ := τ) spec1) (W3 m c) ∗ BI.emp ∗ others 1 (W2 m c) c ∗ Owes c) ⊢ _
  iintro ⟨Ha, -, Hr, HO⟩
  isplitr [HO]
  · isplitl [Ha]; · iexact Ha
    iexact Hr
  iexact HO

end Cert.KernelIdeal.Hand

end
-- ==== Proof.KI.RunMain.lean ====
module

public import proofs.«01_k».proof.Proof.KI.Segs
public import proofs.«01_k».proof.Proof.Gen.KernelIdeal.Regions
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ)

/-- The program's segments: the host operations and the two calls. -/
abbrev segsOf (c : Dev nD) : List (Pipeline.Seg (pcfgs (F := F)) adm (pdats m) () defs₀ Variants.none Lv lvl) :=
  segs m Variants.none Lv lvl (fun _ c => Owes c) () (pdats m) (reg0 m) (reg1 m) c

/-- What a final state holds on core `c`. -/
abbrev Final (c : Dev nD) (s : MemSt nD τ sig (Elt F)) : Prop :=
  s.mem ((c : Thread nD τ).loc main_v7) = fin1 m c ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg8) = m ((c : Thread nD τ).loc main_arg8) ∧ s.mem ((c : Thread nD τ).loc main_arg9) = m ((c : Thread nD τ).loc main_arg9)

set_option backward.isDefEq.respectTransparency.types false in
/-- The program terminates from any memory with zero counters; its result is what the second call leaves, its arguments
    are as launched, and every semaphore counter is at zero. -/
theorem run_main (ρ : Dev nD → PrngReg) :
    θ_run defs (onTc (τ := τ) (main (F := F))) ⟨m, fun _ => 0, ρ⟩ (fun r => (∀ c : Dev nD, Final m c r.2) ∧ r.2.sem = fun _ => 0) := by
  refine Pipeline.θ_run_regions_kit_dev_sems (pcfgs (F := F)) adm (pdats m) () cellOf_inj emb₁ defs₀ Variants.none Lv lvl m ρ main
    (segsOf m)
    (fun c Q => by
      rewrite [main_chain c, Pipeline.Seg.run_eq_chain,
        show (segsOf m c).map Pipeline.Seg.prog = [StableHlo.seq hostOps0, Prog.lift (.customCall (Pipeline.entry 0) ()), Prog.lift (.customCall (Pipeline.entry 1) ())] from rfl]
      exact .rfl)
    (fun c => by simp only [segsOf, segs, Pipeline.Seg.pipes_host, Pipeline.Seg.pipes_region, Pipeline.Seg.pipes_nil]; decide)
    (fun _ => 0) (fun g h => if_neg h) (fun _ => iprop(emp)) (initOf (Pipeline.cells cfgs cellOf_inj) (Pipeline.launchToks cfgs cellOf_inj))
    (by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Owes c))
    (Tₙ := fun c => StableHlo.held (c : Thread nD τ) (Pipeline.ucRefs τ sig) (W3 m c))
    (hch := fun c => ⟨.rfl, pre0 m c, (post0 m c).trans (pre1 m c), post1 m c⟩)
    (hinit := ?_) (QY := fun c s => Final m c s)
    (hfin := fun c s' => ?_) (hQ := fun _ h hz => ⟨h, funext fun g => hz g (.inr (regions_no_unscoped g.2))⟩)
  · refine Pipeline.initEach Lv lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      have hb : ∀ r : Ref sig .tc, r.isScoped = false → s'.mem.mem ((c : Thread nD τ).loc r) = W3 m c (Proc.devRef .tc r) := fun r hr =>
        h (Proc.devRef .tc r) (Finset.mem_filter.mpr ⟨StableHlo.devRef_mem_tcRefs r, by rw [← Bool.not_eq_true] at hr; exact hr⟩)
      have hv := V3_eq m c
      exact ⟨(hb main_v7 rfl).trans (W3_v7 m c),
        (hb main_arg0 rfl).trans ((congrFun hv _).symm.trans (V3_main_arg0 m (outsOf m) c)),
        (hb main_arg1 rfl).trans ((congrFun hv _).symm.trans (V3_main_arg1 m (outsOf m) c)),
        (hb main_arg2 rfl).trans ((congrFun hv _).symm.trans (V3_main_arg2 m (outsOf m) c)),
        (hb main_arg3 rfl).trans ((congrFun hv _).symm.trans (V3_main_arg3 m (outsOf m) c)),
        (hb main_arg4 rfl).trans ((congrFun hv _).symm.trans (V3_main_arg4 m (outsOf m) c)),
        (hb main_arg5 rfl).trans ((congrFun hv _).symm.trans (V3_main_arg5 m (outsOf m) c)),
        (hb main_arg6 rfl).trans ((congrFun hv _).symm.trans (V3_main_arg6 m (outsOf m) c)),
        (hb main_arg7 rfl).trans ((congrFun hv _).symm.trans (V3_main_arg7 m (outsOf m) c)),
        (hb main_arg8 rfl).trans ((congrFun hv _).symm.trans (V3_main_arg8 m (outsOf m) c)),
        (hb main_arg9 rfl).trans ((congrFun hv _).symm.trans (V3_main_arg9 m (outsOf m) c))⟩
    · iexact HSI

end Cert.KernelIdeal.Hand

end
-- ==== Proof.Ref.Frame.lean ====
module

public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The reference each operation of the stretches after the loop writes, in order. -/
abbrev hostOps0_7_W : List (Ref sig .tc) := [main_v55, main_v56, main_v57, main_v58, main_v59]
/-- Each of these writes no other reference. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- What the gate's activation writes. -/
abbrev hostOps0_8_W : List (Ref sig .tc) := [main_call8_v0, main_call8_v1, main_call8_cst, main_call8_v2, main_call8_v3, main_call8_cst_0, main_call8_v4, main_call8_v5, main_v60]
/-- Each of these writes no other reference. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- What the gating and the output projection write. -/
abbrev hostOps0_9_W : List (Ref sig .tc) := [main_v61, main_v62]
/-- Each of these writes no other reference. -/
theorem hostOps0_9_writes : (hostOps0_9 : List (HloOp τ sig (Elt F))).Forall fun op => op.writes ⊆ (hostOps0_9_W.map (Proc.devRef (τ := τ) .tc)).toFinset :=
  StableHlo.forall_writes_sub_of_map rfl

/-- The references written before the loop, by a trip of it, and after it. -/
abbrev preW : List (Ref sig .tc) := hostOps0_W ++ hostOps0_1_W ++ hostOps0_2_W ++ hostOps0_3_W ++ hostOps0_4_W ++ hostOps0_5_W ++ hostOps0_6_W
/-- What a trip of the loop writes, its condition included. -/
abbrev tripW : List (Ref sig .tc) := condOps_W ++ while0Ops0_W ++ while0Ops0_1_W ++ while0Ops0_2_W ++ while0Ops0_3_W ++ while0Ops0_4_W ++ while0Ops0_5_W ++ while0Ops0_6_W
/-- What the stretches after the loop write. -/
abbrev postW : List (Ref sig .tc) := hostOps0_7_W ++ hostOps0_8_W ++ hostOps0_9_W

/-- What no stretch before the loop writes is at the loop's entry as at launch. -/
theorem entry_of (V : Valuation τ sig (Elt F)) (r : Ref sig .tc) (h : r ∉ preW) : afterL preI V (Proc.devRef .tc r) = V (Proc.devRef .tc r) := by
  simp only [preW, List.mem_append, not_or] at h
  simp only [afterL_cons, afterL_nil]
  rw [after_of_writes_sub hostOps0_6 _ hostOps0_6_writes (h.2), after_of_writes_sub hostOps0_5 _ hostOps0_5_writes (h.1.2), after_of_writes_sub hostOps0_4 _ hostOps0_4_writes (h.1.1.2), after_of_writes_sub hostOps0_3 _ hostOps0_3_writes (h.1.1.1.2), after_of_writes_sub hostOps0_2 _ hostOps0_2_writes (h.1.1.1.1.2), after_of_writes_sub hostOps0_1 _ hostOps0_1_writes (h.1.1.1.1.1.2), after_of_writes_sub hostOps0 _ hostOps0_writes (h.1.1.1.1.1.1)]

/-- What no operation of a trip writes is after the trip as before it. -/
theorem trip_of (V : Valuation τ sig (Elt F)) (r : Ref sig .tc) (h : r ∉ tripW) :
    afterL bodyI (after condOps V) (Proc.devRef .tc r) = V (Proc.devRef .tc r) := by
  simp only [tripW, List.mem_append, not_or] at h
  simp only [afterL_cons, afterL_nil]
  rw [after_of_writes_sub while0Ops0_6 _ while0Ops0_6_writes (h.2), after_of_writes_sub while0Ops0_5 _ while0Ops0_5_writes (h.1.2), after_of_writes_sub while0Ops0_4 _ while0Ops0_4_writes (h.1.1.2), after_of_writes_sub while0Ops0_3 _ while0Ops0_3_writes (h.1.1.1.2), after_of_writes_sub while0Ops0_2 _ while0Ops0_2_writes (h.1.1.1.1.2), after_of_writes_sub while0Ops0_1 _ while0Ops0_1_writes (h.1.1.1.1.1.2), after_of_writes_sub while0Ops0 _ while0Ops0_writes (h.1.1.1.1.1.1.2), after_of_writes_sub condOps _ condOps_writes (h.1.1.1.1.1.1.1)]

/-- What no stretch after the loop writes is at the end as at the loop's exit. -/
theorem post_of (V : Valuation τ sig (Elt F)) (r : Ref sig .tc) (h : r ∉ postW) : afterL postI V (Proc.devRef .tc r) = V (Proc.devRef .tc r) := by
  simp only [postW, List.mem_append, not_or] at h
  simp only [afterL_cons, afterL_nil]
  rw [after_of_writes_sub hostOps0_9 _ hostOps0_9_writes (h.2), after_of_writes_sub hostOps0_8 _ hostOps0_8_writes (h.1.2), after_of_writes_sub hostOps0_7 _ hostOps0_7_writes (h.1.1)]

variable (m : (ℓ : Loc nD τ sig) → Buf (Elt F) ℓ)

/-- What no trip writes is before any trip as at the loop's entry. -/
theorem atK_of (c : Dev nD) (r : Ref sig .tc) (h : r ∉ tripW) : ∀ k, atK m k c (Proc.devRef .tc r) = afterL preI (launchContents m c) (Proc.devRef .tc r)
  | 0 => rfl
  | k + 1 => (trip_of _ r h).trans (atK_of c r h k)

/-- At the loop's exit, what the condition does not write is as before the last condition. -/
theorem exit_of (V : Valuation τ sig (Elt F)) (r : Ref sig .tc) (h : r ∉ condOps_W) : after condOps V (Proc.devRef .tc r) = V (Proc.devRef .tc r) :=
  after_of_writes_sub condOps V condOps_writes h

/-- The program has no semaphore. -/
theorem no_sem (s : SemLoc sig) : False := by
  rcases s with s | s
  · exact absurd s.isLt (Nat.not_lt_zero _)
  · exact absurd s.isLt (Nat.not_lt_zero _)

/-- The buffers at the end. -/
abbrev Z (c : Dev nD) : Valuation τ sig (Elt F) := finalContents condOps preI bodyI postI 2048 m c

/-- What nothing writes is at the end as at launch. -/
theorem Z_of (c : Dev nD) (r : Ref sig .tc) (h1 : r ∉ preW) (h2 : r ∉ tripW) (h3 : r ∉ condOps_W) (h4 : r ∉ postW) :
    Z m c (Proc.devRef .tc r) = m ((c.tc : Thread nD τ).loc r) :=
  (post_of _ r h4).trans ((exit_of _ r h3).trans ((atK_of m c r h2 2048).trans ((entry_of _ r h1).trans rfl)))

/-- A launch ends with the result of the last valuation and every argument as at launch, no semaphore left. -/
theorem run_main (ρ : Dev nD → PrngReg) : θ_run (defs (F := F)) (onTc (τ := τ) (main (F := F))) ⟨m, fun _ => 0, ρ⟩
    (fun r => (∀ c : Dev nD, r.2.mem ((c.tc : Thread nD τ).loc main_v62) = Z m c (Proc.devRef .tc main_v62) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) := by
  refine (θ_run _ _ _).mono ?_ (run_fold m ρ)
  intro r h
  refine ⟨fun c => ⟨h c main_v62 rfl, (h c main_arg0 rfl).trans (Z_of m c main_arg0 (by decide) (by decide) (by decide) (by decide)), (h c main_arg1 rfl).trans (Z_of m c main_arg1 (by decide) (by decide) (by decide) (by decide)), (h c main_arg2 rfl).trans (Z_of m c main_arg2 (by decide) (by decide) (by decide) (by decide)), (h c main_arg3 rfl).trans (Z_of m c main_arg3 (by decide) (by decide) (by decide) (by decide)), (h c main_arg4 rfl).trans (Z_of m c main_arg4 (by decide) (by decide) (by decide) (by decide)), (h c main_arg5 rfl).trans (Z_of m c main_arg5 (by decide) (by decide) (by decide) (by decide)), (h c main_arg6 rfl).trans (Z_of m c main_arg6 (by decide) (by decide) (by decide) (by decide)), (h c main_arg7 rfl).trans (Z_of m c main_arg7 (by decide) (by decide) (by decide) (by decide)), (h c main_arg8 rfl).trans (Z_of m c main_arg8 (by decide) (by decide) (by decide) (by decide)), (h c main_arg9 rfl).trans (Z_of m c main_arg9 (by decide) (by decide) (by decide) (by decide))⟩, ?_⟩
  exact funext fun g => (no_sem g.2).elim

end Cert.ReferenceIdeal.Hand

end
-- ==== Proof.Value.Math.lean ====
module

public import Idealize.ShloMosaic.PureOps.Ideal
public import Idealize.ShloMosaic.Lib.Pointwise

@[expose] public section

noncomputable section

/-! The block's mathematics over the extended reals, entry by entry: what both programs compute. -/

namespace Cert.Math

open Idealize.ShloMosaic

/-- The ten arguments, entry by entry. -/
structure Args where
  x : ℕ → ℕ → ℕ → EReal
  w : ℕ → ℕ → EReal
  cw : ℕ → ℕ → EReal
  cb : ℕ → EReal
  xp : ℕ → ℕ → EReal
  dw : ℕ → ℕ → EReal
  db : ℕ → EReal
  a : ℕ → ℕ → EReal
  d : ℕ → EReal
  ow : ℕ → ℕ → EReal

/-- An array's entry at numbers; zero outside. -/
def at1 {a : ℕ} (f : Fin a → EReal) (i : ℕ) : EReal := if h : i < a then f ⟨i, h⟩ else 0
/-- An array's entry at two numbers. -/
def at2 {a b : ℕ} (f : Fin a → Fin b → EReal) (i j : ℕ) : EReal := if h : i < a ∧ j < b then f ⟨i, h.1⟩ ⟨j, h.2⟩ else 0
/-- An array's entry at three numbers. -/
def at3 {a b c : ℕ} (f : Fin a → Fin b → Fin c → EReal) (i j k : ℕ) : EReal := if h : i < a ∧ j < b ∧ k < c then f ⟨i, h.1⟩ ⟨j, h.2.1⟩ ⟨k, h.2.2⟩ else 0

/-- Inside, that is the array's entry. -/
theorem at1_of {a : ℕ} (f : Fin a → EReal) {i : ℕ} (hi : i < a) : at1 f i = f ⟨i, hi⟩ := dif_pos hi
/-- Inside, that is the array's entry. -/
theorem at2_of {a b : ℕ} (f : Fin a → Fin b → EReal) {i j : ℕ} (hi : i < a) (hj : j < b) : at2 f i j = f ⟨i, hi⟩ ⟨j, hj⟩ := dif_pos ⟨hi, hj⟩
/-- Inside, that is the array's entry. -/
theorem at3_of {a b c : ℕ} (f : Fin a → Fin b → Fin c → EReal) {i j k : ℕ} (hi : i < a) (hj : j < b) (hk : k < c) : at3 f i j k = f ⟨i, hi⟩ ⟨j, hj⟩ ⟨k, hk⟩ :=
  dif_pos ⟨hi, hj, hk⟩

/-- The arguments from the arrays that hold them. -/
def argsOf (x : Fin 2 → Fin 2048 → Fin 1024 → EReal) (w : Fin 1024 → Fin 4096 → EReal) (cw : Fin 2048 → Fin 4 → EReal) (cb : Fin 2048 → EReal)
    (xp : Fin 2048 → Fin 96 → EReal) (dw : Fin 64 → Fin 2048 → EReal) (db : Fin 2048 → EReal) (a : Fin 2048 → Fin 16 → EReal) (d : Fin 2048 → EReal)
    (ow : Fin 2048 → Fin 1024 → EReal) : Args where
  x := at3 x
  w := at2 w
  cw := at2 cw
  cb := at1 cb
  xp := at2 xp
  dw := at2 dw
  db := at1 db
  a := at2 a
  d := at1 d
  ow := at2 ow

/-- `v · σ(v)`. -/
def silu (v : EReal) : EReal := v * Ideal.div 1 (1 + Ideal.exp (-v))

/-- `log (1 + eᵛ)`, in its stable form. -/
def softplus (v : EReal) : EReal := max v 0 + Ideal.log1p (Ideal.exp (-max v (-v)))

variable (A : Args)

/-- The input projection. -/
def xz (b l e : ℕ) : EReal := ∑ k : Fin 1024, A.x b l k * A.w k e

/-- The projection `n - 3` rows down, zero before the first row. -/
def tap (b n d : ℕ) : EReal := if n < 3 then 0 else xz A b (n - 3) d

/-- Before the first row it is zero. -/
theorem tap_lt {b n d : ℕ} (h : n < 3) : tap A b n d = 0 := if_pos h
/-- From there on it is the projection. -/
theorem tap_ge {b n d : ℕ} (h : 3 ≤ n) : tap A b n d = xz A b (n - 3) d := if_neg (by omega)

/-- The causal convolution with its bias. -/
def cv (b l d : ℕ) : EReal :=
  (((tap A b l d * A.cw d 0 + tap A b (l + 1) d * A.cw d 1) + tap A b (l + 2) d * A.cw d 2) + tap A b (l + 3) d * A.cw d 3) + A.cb d

/-- The convolved input. -/
def xc (b l d : ℕ) : EReal := silu (cv A b l d)

/-- The gate. -/
def zg (b l d : ℕ) : EReal := silu (xz A b l (2048 + d))

/-- The projection to step sizes and maps. -/
def dbl (b l r : ℕ) : EReal := ∑ k : Fin 2048, xc A b l k * A.xp k r

/-- The step size. -/
def dlt (b l d : ℕ) : EReal := softplus ((∑ r : Fin 64, dbl A b l r * A.dw r d) + A.db d)

/-- One time step of channel `d`, state entry `n`. -/
def stepE (b l d n : ℕ) (h : EReal) : EReal :=
  Ideal.exp (dlt A b l d * -Ideal.exp (A.a d n)) * h + (dlt A b l d * xc A b l d) * dbl A b l (64 + n)

/-- The state before row `l`. -/
def st (b d n : ℕ) : ℕ → EReal
  | 0 => 0
  | l + 1 => stepE A b l d n (st b d n l)

/-- The scan's output. -/
def y (b l d : ℕ) : EReal := ∑ n : Fin 16, st A b d n (l + 1) * dbl A b l (80 + n)

/-- The gated output. -/
def gt (b l d : ℕ) : EReal := (y A b l d + xc A b l d * A.d d) * zg A b l d

/-- The result. -/
def out (b l e : ℕ) : EReal := ∑ d : Fin 2048, gt A b l d * A.ow d e

/-- `2` to the power `-v / ln 2` is `e` to the power `-v`. -/
theorem exp2_neg (v : EReal) : Ideal.exp2 (v * ((-((Real.log 2)⁻¹) : ℝ) : EReal)) = Ideal.exp (-v) := by
  have hl : 0 < Real.log 2 := Real.log_pos (by norm_num)
  have hn : -((Real.log 2)⁻¹) < 0 := neg_lt_zero.mpr (inv_pos.mpr hl)
  induction v using EReal.rec with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 _ : ℝ) : EReal) = ((Real.exp _ : ℝ) : EReal)
    congr 1
    show (2 : ℝ) ^ (r * -(Real.log 2)⁻¹) = _
    rw [Real.rpow_def_of_pos (by norm_num)]
    congr 1
    field_simp

/-- `e` to any power is not below zero. -/
theorem exp_nonneg (v : EReal) : 0 ≤ Ideal.exp v := by
  induction v using EReal.rec with
  | bot => exact le_rfl
  | top => exact le_top
  | coe r => exact EReal.coe_nonneg.mpr (Real.exp_pos r).le

/-- The activation's divisor is not zero. -/
theorem one_add_exp_ne (v : EReal) : 1 + Ideal.exp v ≠ 0 :=
  (lt_of_lt_of_le zero_lt_one (le_add_of_nonneg_right (exp_nonneg v))).ne'

/-- The quotient form of `v · σ(v)`. -/
theorem silu_div (v : EReal) : Ideal.div v (1 + Ideal.exp2 (v * ((-((Real.log 2)⁻¹) : ℝ) : EReal))) = silu v := by
  rw [exp2_neg, silu, Ideal.div, Ideal.div, if_neg (one_add_exp_ne _), if_neg (one_add_exp_ne _), one_mul]

/-- The base-two form of the stable `log (1 + eᵛ)`. -/
theorem softplus_exp2 (v : EReal) :
    max v 0 + (Ideal.log (1 + Ideal.exp2 (max v (-v) * ((-((Real.log 2)⁻¹) : ℝ) : EReal))) * (((Real.log 2)⁻¹ : ℝ) : EReal)) * ((Real.log 2 : ℝ) : EReal) = softplus v := by
  have hl : Real.log 2 ≠ 0 := (Real.log_pos (by norm_num)).ne'
  rw [exp2_neg, softplus, mul_assoc, ← EReal.coe_mul, inv_mul_cancel₀ hl, EReal.coe_one, mul_one]
  rfl

/-- The decay, with the base's change folded into the matrix. -/
theorem decay_exp2 (v a : EReal) : Ideal.exp2 (v * (Ideal.exp a * ((-((Real.log 2)⁻¹) : ℝ) : EReal))) = Ideal.exp (v * -Ideal.exp a) := by
  rw [← mul_assoc, exp2_neg, mul_neg]

end Cert.Math

end
-- ==== Proof.Ref.Entries.lean ====
module

public import proofs.«01_k».proof.Proof.Ref.Frame
public import proofs.«01_k».proof.Proof.Value.Math
public import Idealize.ShloMosaic.Lib.Pointwise
public import Idealize.ShloMosaic.Lib.Claim
public import Idealize.ShloMosaic.Lib.Tactic.CleanTypes

@[expose] public section

set_option maxRecDepth 16384

noncomputable section

namespace Cert.ReferenceIdeal.Entries

open Cert Cert.ReferenceIdeal Cert.ReferenceIdeal.Gen Cert.ReferenceIdeal.Hand
open Idealize.ShloMosaic Idealize.ShloMosaic.TcCoe Idealize.ShloMosaic.StableHlo Idealize.ShloMosaic.Tactic

variable (V : Valuation τ sig (Elt Ideal)) (A : Math.Args)

/-! Before the loop: each stretch's results, entry by entry, from the entries it reads. -/

/-- The input projection's first half. -/
theorem s0_v1 (hx : ∀ (b : Fin 2) (l : Fin 2048) (k : Fin 1024), V main_arg0 (ix3 b l k) = A.x b l k) (hw : ∀ (k : Fin 1024) (e : Fin 4096), V main_arg1 (ix2 k e) = A.w k e)
    (b : Fin 2) (l : Fin 2048) (d : Fin 2048) : after hostOps0 V main_v1 (ix3 b l d) = Math.xz A b l d := by
  entry_read
  clean_types
  pointwise
  exact Finset.sum_congr rfl fun k _ => by rw [hx, hw]

/-- The input projection's second half. -/
theorem s0_v2 (hx : ∀ (b : Fin 2) (l : Fin 2048) (k : Fin 1024), V main_arg0 (ix3 b l k) = A.x b l k) (hw : ∀ (k : Fin 1024) (e : Fin 4096), V main_arg1 (ix2 k e) = A.w k e)
    (b : Fin 2) (l : Fin 2048) (d : Fin 2048) : after hostOps0 V main_v2 (ix3 b l d) = Math.xz A b l (2048 + d) := by
  entry_read
  clean_types
  pointwise
  exact Finset.sum_congr rfl fun k _ => by rw [hx, hw]

/-- The padding's word. -/
theorem s0_c : after hostOps0 V main_c (Shape.Idx.first h_S_) = (0#32 : BitVec 32) := by
  entry_read
  rfl

/-- The padded projection. -/
theorem s1_v3 (hv : ∀ (b : Fin 2) (l : Fin 2048) (d : Fin 2048), V main_v1 (ix3 b l d) = Math.xz A b l d) (hc : V main_c (Shape.Idx.first h_S_) = (0#32 : BitVec 32))
    (b : Fin 2) (n : Fin 2051) (d : Fin 2048) : after hostOps0_1 V main_v3 (ix3 b n d) = Math.tap A b n d := by
  entry_read
  simp only [TRef.ofBuf_toBuf]
  simp only [TRef.ofBuf, TRef.toBuf]
  clean_types
  simp only [cast_eq]
  pointwise
  by_cases h : n.val < 3
  · rw [dif_neg (by omega), Math.tap_lt A h, hc]
    show (((BitVec.toInt 0#32 : ℤ) : ℝ) : EReal) = 0
    simp
  · rw [dif_pos (by omega), Math.tap_ge A (by omega), hv]

/-- The convolution with its bias. -/
theorem s2_v35 (hv : ∀ (b : Fin 2) (n : Fin 2051) (d : Fin 2048), V main_v3 (ix3 b n d) = Math.tap A b n d) (hw : ∀ (d : Fin 2048) (j : Fin 4), V main_arg2 (ix2 d j) = A.cw d j)
    (hb : ∀ d : Fin 2048, V main_arg3 (ix1 d) = A.cb d)
    (b : Fin 2) (l : Fin 2048) (d : Fin 2048) : after hostOps0_2 V main_v35 (ix3 b l d) = Math.cv A b l d := by
  entry_read
  clean_types
  pointwise
  simp only [hv, hw, hb]
  unfold Math.cv
  rw [Nat.add_comm 1 l.val, Nat.add_comm 2 l.val, Nat.add_comm 3 l.val]
  rfl

/-- The convolved input. -/
theorem s3_v36 (hv : ∀ (b : Fin 2) (l : Fin 2048) (d : Fin 2048), V main_v35 (ix3 b l d) = Math.cv A b l d)
    (b : Fin 2) (l : Fin 2048) (d : Fin 2048) : after hostOps0_3 V main_v36 (ix3 b l d) = Math.xc A b l d := by
  entry_read
  simp only [TRef.ofBuf_toBuf]
  simp only [TRef.ofBuf, TRef.toBuf]
  clean_types
  simp only [cast_eq]
  pointwise
  rw [hv]
  rfl

/-- The map into the state. -/
theorem s4_v39 (hv : ∀ (b : Fin 2) (l : Fin 2048) (d : Fin 2048), V main_v36 (ix3 b l d) = Math.xc A b l d) (hp : ∀ (k : Fin 2048) (r : Fin 96), V main_arg4 (ix2 k r) = A.xp k r)
    (b : Fin 2) (l : Fin 2048) (n : Fin 16) : after hostOps0_4 V main_v39 (ix3 b l n) = Math.dbl A b l (64 + n) := by
  entry_read
  clean_types
  pointwise
  exact Finset.sum_congr rfl fun k _ => by rw [hv, hp]

/-- The map out of the state. -/
theorem s4_v40 (hv : ∀ (b : Fin 2) (l : Fin 2048) (d : Fin 2048), V main_v36 (ix3 b l d) = Math.xc A b l d) (hp : ∀ (k : Fin 2048) (r : Fin 96), V main_arg4 (ix2 k r) = A.xp k r)
    (b : Fin 2) (l : Fin 2048) (n : Fin 16) : after hostOps0_4 V main_v40 (ix3 b l n) = Math.dbl A b l (80 + n) := by
  entry_read
  clean_types
  pointwise
  exact Finset.sum_congr rfl fun k _ => by rw [hv, hp]

/-- The step sizes before their softplus. -/
theorem s4_v44 (hv : ∀ (b : Fin 2) (l : Fin 2048) (d : Fin 2048), V main_v36 (ix3 b l d) = Math.xc A b l d) (hp : ∀ (k : Fin 2048) (r : Fin 96), V main_arg4 (ix2 k r) = A.xp k r)
    (hw : ∀ (r : Fin 64) (d : Fin 2048), V main_arg5 (ix2 r d) = A.dw r d) (hb : ∀ d : Fin 2048, V main_arg6 (ix1 d) = A.db d)
    (b : Fin 2) (l : Fin 2048) (d : Fin 2048) : after hostOps0_4 V main_v44 (ix3 b l d) = (∑ r : Fin 64, Math.dbl A b l r * A.dw r d) + A.db d := by
  entry_read
  clean_types
  pointwise
  rw [hb]
  congr 1
  refine Finset.sum_congr rfl fun r _ => ?_
  rw [hw]
  congr 1
  exact Finset.sum_congr rfl fun k _ => by rw [hv, hp]

/-- The step sizes. -/
theorem s5_v45 (hv : ∀ (b : Fin 2) (l : Fin 2048) (d : Fin 2048), V main_v44 (ix3 b l d) = (∑ r : Fin 64, Math.dbl A b l r * A.dw r d) + A.db d)
    (b : Fin 2) (l : Fin 2048) (d : Fin 2048) : after hostOps0_5 V main_v45 (ix3 b l d) = Math.dlt A b l d := by
  entry_read
  simp only [TRef.ofBuf_toBuf]
  simp only [TRef.ofBuf, TRef.toBuf]
  clean_types
  simp only [cast_eq]
  pointwise
  rw [if_neg (by simp), hv]
  rfl

/-! The loop's arrays at its entry, rows first. -/

/-- The step sizes by row. -/
theorem s6_0 (l : Fin 2048) (b : Fin 2) (d : Fin 2048) : after hostOps0_6 V main_v54_0 (ix3 l b d) = V main_v45 (ix3 b l d) := by
  entry_read
  clean_types
  pointwise
/-- The map into the state by row. -/
theorem s6_1 (l : Fin 2048) (b : Fin 2) (n : Fin 16) : after hostOps0_6 V main_v54_1 (ix3 l b n) = V main_v39 (ix3 b l n) := by
  entry_read
  clean_types
  pointwise
/-- The map out of the state by row. -/
theorem s6_2 (l : Fin 2048) (b : Fin 2) (n : Fin 16) : after hostOps0_6 V main_v54_2 (ix3 l b n) = V main_v40 (ix3 b l n) := by
  entry_read
  clean_types
  pointwise
/-- The convolved input by row. -/
theorem s6_3 (l : Fin 2048) (b : Fin 2) (d : Fin 2048) : after hostOps0_6 V main_v54_3 (ix3 l b d) = V main_v36 (ix3 b l d) := by
  entry_read
  clean_types
  pointwise
/-- The rates. -/
theorem s6_4 (ha : ∀ (d : Fin 2048) (n : Fin 16), V main_arg7 (ix2 d n) = A.a d n) (d : Fin 2048) (n : Fin 16) : after hostOps0_6 V main_v54_4 (ix2 d n) = -Ideal.exp (A.a d n) := by
  entry_read
  clean_types
  pointwise
  rw [ha]
/-- The first state. -/
theorem s6_6 (b : Fin 2) (d : Fin 2048) (n : Fin 16) : after hostOps0_6 V main_v54_6 (ix3 b d n) = (0 : EReal) := by
  entry_read
  clean_types
  pointwise
/-- The outputs before any. -/
theorem s6_7 (l : Fin 2048) (b : Fin 2) (d : Fin 2048) : after hostOps0_6 V main_v54_7 (ix3 l b d) = (0 : EReal) := by
  entry_read
  clean_types
  pointwise

/-! After the loop. -/

/-- The scan's output with the direct term. -/
theorem s7_v59 (hy : ∀ (l : Fin 2048) (b : Fin 2) (d : Fin 2048), V main_v54_7 (ix3 l b d) = Math.y A b l d) (hx : ∀ (b : Fin 2) (l : Fin 2048) (d : Fin 2048), V main_v36 (ix3 b l d) = Math.xc A b l d)
    (hd : ∀ d : Fin 2048, V main_arg8 (ix1 d) = A.d d)
    (b : Fin 2) (l : Fin 2048) (d : Fin 2048) : after hostOps0_7 V main_v59 (ix3 b l d) = Math.y A b l d + Math.xc A b l d * A.d d := by
  entry_read
  clean_types
  pointwise
  rw [hy, hx, hd]

/-- The gate. -/
theorem s8_v60 (hv : ∀ (b : Fin 2) (l : Fin 2048) (d : Fin 2048), V main_v2 (ix3 b l d) = Math.xz A b l (2048 + d))
    (b : Fin 2) (l : Fin 2048) (d : Fin 2048) : after hostOps0_8 V main_v60 (ix3 b l d) = Math.zg A b l d := by
  entry_read
  simp only [TRef.ofBuf_toBuf]
  simp only [TRef.ofBuf, TRef.toBuf]
  clean_types
  simp only [cast_eq]
  pointwise
  rw [hv]
  rfl

/-- The result. -/
theorem s9_v62 (hy : ∀ (b : Fin 2) (l : Fin 2048) (d : Fin 2048), V main_v59 (ix3 b l d) = Math.y A b l d + Math.xc A b l d * A.d d)
    (hz : ∀ (b : Fin 2) (l : Fin 2048) (d : Fin 2048), V main_v60 (ix3 b l d) = Math.zg A b l d) (hw : ∀ (d : Fin 2048) (e : Fin 1024), V main_arg9 (ix2 d e) = A.ow d e)
    (b : Fin 2) (l : Fin 2048) (e : Fin 1024) : after hostOps0_9 V main_v62 (ix3 b l e) = Math.out A b l e := by
  entry_read
  clean_types
  pointwise
  exact Finset.sum_congr rfl fun k _ => by rw [hy, hz, hw]; rfl

end Cert.ReferenceIdeal.Entries

end
-- ==== Proof.Ref.Loop.lean ====
module

public import proofs.«01_k».proof.Proof.Ref.Entries
public import proofs.«01_k».proof.Proof.Value.Math
public import Idealize.ShloMosaic.Lib.Pointwise
public import Idealize.ShloMosaic.Lib.Claim
public import Idealize.ShloMosaic.Lib.WordArith.Masks
public import Idealize.ShloMosaic.Lib.Tactic.CleanTypes

@[expose] public section

set_option maxRecDepth 16384

noncomputable section

namespace Cert.ReferenceIdeal.Entries

open Cert Cert.ReferenceIdeal Cert.ReferenceIdeal.Gen Cert.ReferenceIdeal.Hand
open Idealize.ShloMosaic Idealize.ShloMosaic.TcCoe Idealize.ShloMosaic.StableHlo Idealize.ShloMosaic.Tactic

variable (V : Valuation τ sig (Elt Ideal)) (A : Math.Args)

/-! A trip of the loop, entry by entry. -/

/-- The trip's number as a start. -/
theorem start_at (k : ℕ) (hk : k < 2048) (hc : V main_v54_5 = fun _ => Scf.iv 0#32 1#32 k) :
    BitVec.toInt (V main_v54_5 (Shape.Idx.first h_S_)) = (k : ℤ) := by
  rw [hc]
  show BitVec.toInt (Scf.iv 0#32 1#32 k) = (k : ℤ)
  rw [BitVec.toInt_eq_toNat_of_lt (by rw [WordArith.toNat_iv_zero_one k (by omega)]; omega), WordArith.toNat_iv_zero_one k (by omega)]

/-- The clamped starts of a row: its number and twice zero. -/
theorem clamped {N : ℕ} (start : Fin 3 → Int) (h : (⟨3, ![2048, 2, N]⟩ : Shape).Slices (fun _ => 0) ⟨3, ![1, 2, N]⟩) (k : ℕ) (hk : k < 2048) (h0 : start 0 = (k : ℤ)) (h1 : start 1 = 0) (h2 : start 2 = 0) :
    Host.clampedStart ⟨3, ![2048, 2, N]⟩ ⟨3, ![1, 2, N]⟩ h.1 start (0 : Fin 3) = k ∧ Host.clampedStart ⟨3, ![2048, 2, N]⟩ ⟨3, ![1, 2, N]⟩ h.1 start (1 : Fin 3) = 0
      ∧ Host.clampedStart ⟨3, ![2048, 2, N]⟩ ⟨3, ![1, 2, N]⟩ h.1 start (2 : Fin 3) = 0 :=
  ⟨Host.clampedStart_of_le h.1 start (0 : Fin 3) k h0 (by show k + 1 ≤ 2048; omega), Host.clampedStart_of_le h.1 start (1 : Fin 3) 0 h1 (by show 0 + 2 ≤ 2; omega),
    Host.clampedStart_of_le h.1 start (2 : Fin 3) 0 h2 (by show 0 + N ≤ N; omega)⟩

/-- The place a row is read from. -/
theorem row_ix {N : ℕ} (start : Fin 3 → Int) (h : (⟨3, ![2048, 2, N]⟩ : Shape).Slices (fun _ => 0) ⟨3, ![1, 2, N]⟩) (k : ℕ) (hk : k < 2048)
    (b : Fin 2) (d : Fin N) (p0 p1 p2) (h0 : start 0 = (k : ℤ)) (h1 : start 1 = 0) (h2 : start 2 = 0) :
    ix3 (⟨Host.clampedStart ⟨3, ![2048, 2, N]⟩ ⟨3, ![1, 2, N]⟩ h.1 start (0 : Fin 3), p0⟩ : Fin 2048)
      (⟨Host.clampedStart ⟨3, ![2048, 2, N]⟩ ⟨3, ![1, 2, N]⟩ h.1 start (1 : Fin 3) + b.val, p1⟩ : Fin 2)
      (⟨Host.clampedStart ⟨3, ![2048, 2, N]⟩ ⟨3, ![1, 2, N]⟩ h.1 start (2 : Fin 3) + d.val, p2⟩ : Fin N) = ix3 ⟨k, hk⟩ b d := by
  obtain ⟨e0, e1, e2⟩ := clamped start h k hk h0 h1 h2
  exact congr (congr (congrArg ix3 (Fin.ext e0)) (Fin.ext ((congrArg (· + b.val) e1).trans (Nat.zero_add _)))) (Fin.ext ((congrArg (· + d.val) e2).trans (Nat.zero_add _)))

/-- A row written into the outputs. -/
theorem row_write (x : S2048x2x2048.Idx → EReal) (u : S1x2x2048.Idx → EReal) (start : Fin 3 → Int) (h) (k : ℕ) (hk : k < 2048) (h0 : start 0 = (k : ℤ)) (h1 : start 1 = 0) (h2 : start 2 = 0)
    (l : Fin 2048) (b : Fin 2) (d : Fin 2048) : Host.dynamicUpdateSlice x u start h (ix3 l b d) = if l.val = k then u (ix3 0 b d) else x (ix3 l b d) := by
  obtain ⟨e0, e1, e2⟩ := clamped start h k hk h0 h1 h2
  rw [Host.dynamicUpdateSlice_apply]
  by_cases e : l.val = k
  · rw [if_pos e, dif_pos]
    · rw [Shape.Idx.norm3]
      refine congrArg u (congr (congr (congrArg ix3 (Fin.ext ?_)) (Fin.ext ?_)) (Fin.ext ?_))
      · exact (congrArg (l.val - ·) e0).trans (by show l.val - k = 0; omega)
      · exact (congrArg (b.val - ·) e1).trans (Nat.sub_zero _)
      · exact (congrArg (d.val - ·) e2).trans (Nat.sub_zero _)
    · refine Fin.forall_fin_succ.mpr ⟨?_, Fin.forall_fin_two.mpr ⟨?_, ?_⟩⟩
      · exact ⟨e0.trans_le e.ge, lt_of_lt_of_eq (Nat.lt_succ_of_le e.le) (congrArg (· + 1) e0.symm)⟩
      · exact ⟨e1.trans_le (Nat.zero_le _), lt_of_lt_of_eq b.isLt ((Nat.zero_add 2).symm.trans (congrArg (· + 2) e1.symm))⟩
      · exact ⟨e2.trans_le (Nat.zero_le _), lt_of_lt_of_eq d.isLt ((Nat.zero_add 2048).symm.trans (congrArg (· + 2048) e2.symm))⟩
  · rw [if_neg e, dif_neg]
    intro hin
    have h3 : Host.clampedStart _ _ h.1 start (0 : Fin 3) ≤ l.val ∧ l.val < Host.clampedStart _ _ h.1 start (0 : Fin 3) + 1 := hin 0
    rw [e0] at h3
    omega

/-- What the loop's arrays hold before trip `k`. -/
structure Holds (k : ℕ) : Prop where
  dlt : ∀ (l : Fin 2048) (b : Fin 2) (d : Fin 2048), V main_v54_0 (ix3 l b d) = Math.dlt A b l d
  inm : ∀ (l : Fin 2048) (b : Fin 2) (n : Fin 16), V main_v54_1 (ix3 l b n) = Math.dbl A b l (64 + n)
  outm : ∀ (l : Fin 2048) (b : Fin 2) (n : Fin 16), V main_v54_2 (ix3 l b n) = Math.dbl A b l (80 + n)
  xc : ∀ (l : Fin 2048) (b : Fin 2) (d : Fin 2048), V main_v54_3 (ix3 l b d) = Math.xc A b l d
  rate : ∀ (d : Fin 2048) (n : Fin 16), V main_v54_4 (ix2 d n) = -Ideal.exp (A.a d n)
  ctr : V main_v54_5 = fun _ => Scf.iv 0#32 1#32 k
  st : ∀ (b : Fin 2) (d : Fin 2048) (n : Fin 16), V main_v54_6 (ix3 b d n) = Math.st A b d n k
  y : ∀ (l : Fin 2048) (b : Fin 2) (d : Fin 2048), l.val < k → V main_v54_7 (ix3 l b d) = Math.y A b l d

/-- The state after a trip. -/
theorem trip_st {k : ℕ} (hk : k < 2048) (H : Holds V A k) (b : Fin 2) (d : Fin 2048) (n : Fin 16) :
    Value.res_main_while0b_v80 V (ix3 b d n) = Math.st A b d n (k + 1) := by
  have hs := start_at V k hk H.ctr
  unfold Value.res_main_while0b_v80 Value.res_main_while0b_v63
  clean_types
  pointwise
  rw [row_ix _ sliceFits_S2048x2x2048_S1x2x2048 k hk b d _ _ _ hs rfl rfl, row_ix _ sliceFits_S2048x2x16_S1x2x16 k hk b n _ _ _ hs rfl rfl]
  rw [H.dlt, H.rate, H.st, H.xc, H.inm]
  rfl

/-- The outputs after a trip. -/
theorem trip_y {k : ℕ} (hk : k < 2048) (H : Holds V A k) (l : Fin 2048) (b : Fin 2) (d : Fin 2048) (hl : l.val < k + 1) :
    Value.step_main_v54_7 V (ix3 l b d) = Math.y A b l d := by
  have hs := start_at V k hk H.ctr
  unfold Value.step_main_v54_7
  clean_types
  refine (row_write _ _ _ _ k hk hs rfl rfl l b d).trans ?_
  by_cases e : l.val = k
  · rw [if_pos e]
    pointwise
    refine Finset.sum_congr rfl fun n _ => ?_
    rw [row_ix _ sliceFits_S2048x2x16_S1x2x16 k hk b n _ _ _ hs rfl rfl, trip_st V A hk H, H.outm, e]
  · rw [if_neg e, H.y l b d (by omega)]

/-- What the loop's arrays hold after a trip. -/
theorem trip_holds {k : ℕ} (hk : k < 2048) (H : Holds V A k) : Holds (Value.STEP V) A (k + 1) where
  dlt l b d := (congrFun (Value.STEP_main_v54_0 V) _).trans (H.dlt l b d)
  inm l b n := (congrFun (Value.STEP_main_v54_1 V) _).trans (H.inm l b n)
  outm l b n := (congrFun (Value.STEP_main_v54_2 V) _).trans (H.outm l b n)
  xc l b d := (congrFun (Value.STEP_main_v54_3 V) _).trans (H.xc l b d)
  rate d n := (congrFun (Value.STEP_main_v54_4 V) _).trans (H.rate d n)
  ctr := by
    rw [Value.STEP_main_v54_5]
    unfold Value.step_main_v54_5
    rw [H.ctr, Scf.iv_succ]
    rfl
  st b d n := (congrFun (Value.STEP_main_v54_6 V) _).trans (trip_st V A hk H b d n)
  y l b d hl := (congrFun (Value.STEP_main_v54_7 V) _).trans (trip_y V A hk H l b d hl)

/-- What the loop's arrays hold after so many trips. -/
theorem trips_hold (H : Holds V A 0) : ∀ k, k ≤ 2048 → Holds (Value.STEP^[k] V) A k
  | 0, _ => H
  | k + 1, hk => by
    rw [Function.iterate_succ_apply']
    exact trip_holds _ A (by omega) (trips_hold H k (by omega))

end Cert.ReferenceIdeal.Entries

end
-- ==== Proof.Ref.Value.lean ====
module

public import proofs.«01_k».proof.Proof.Ref.Loop
public import proofs.«01_k».proof.Proof.Value.Math
public import Idealize.ShloMosaic.Lib.Pointwise
public import Idealize.ShloMosaic.Lib.Claim
public import Idealize.ShloMosaic.Lib.WordArith.Masks
public import Idealize.ShloMosaic.Lib.Tactic.CleanTypes

@[expose] public section

set_option maxRecDepth 16384

noncomputable section

namespace Cert.ReferenceIdeal.Entries

open Cert Cert.ReferenceIdeal Cert.ReferenceIdeal.Gen Cert.ReferenceIdeal.Hand
open Idealize.ShloMosaic Idealize.ShloMosaic.TcCoe Idealize.ShloMosaic.StableHlo Idealize.ShloMosaic.Tactic

variable (m : (ℓ : Loc nD τ sig) → Buf (Elt Ideal) ℓ) (c : Dev nD)

/-- The reference's arguments. -/
def args : Math.Args :=
  Math.argsOf (fun i j k => m ((c.tc : Thread nD τ).loc main_arg0) (ix3 i j k)) (fun i j => m ((c.tc : Thread nD τ).loc main_arg1) (ix2 i j))
    (fun i j => m ((c.tc : Thread nD τ).loc main_arg2) (ix2 i j)) (fun i => m ((c.tc : Thread nD τ).loc main_arg3) (ix1 i))
    (fun i j => m ((c.tc : Thread nD τ).loc main_arg4) (ix2 i j)) (fun i j => m ((c.tc : Thread nD τ).loc main_arg5) (ix2 i j))
    (fun i => m ((c.tc : Thread nD τ).loc main_arg6) (ix1 i)) (fun i j => m ((c.tc : Thread nD τ).loc main_arg7) (ix2 i j))
    (fun i => m ((c.tc : Thread nD τ).loc main_arg8) (ix1 i)) (fun i j => m ((c.tc : Thread nD τ).loc main_arg9) (ix2 i j))

/-! Their entries as the launch holds them. -/

/-- The input's entries. -/
theorem args_x (b : Fin 2) (l : Fin 2048) (k : Fin 1024) : launchContents m c main_arg0 (ix3 b l k) = (args m c).x b l k := by
  unfold args Math.argsOf
  dsimp only
  rw [Math.at3_of _ b.isLt l.isLt k.isLt]
/-- The input projection's entries. -/
theorem args_w (k : Fin 1024) (e : Fin 4096) : launchContents m c main_arg1 (ix2 k e) = (args m c).w k e := by
  unfold args Math.argsOf
  dsimp only
  rw [Math.at2_of _ k.isLt e.isLt]
/-- The convolution's entries. -/
theorem args_cw (d : Fin 2048) (j : Fin 4) : launchContents m c main_arg2 (ix2 d j) = (args m c).cw d j := by
  unfold args Math.argsOf
  dsimp only
  rw [Math.at2_of _ d.isLt j.isLt]
/-- Its bias's entries. -/
theorem args_cb (d : Fin 2048) : launchContents m c main_arg3 (ix1 d) = (args m c).cb d := by
  unfold args Math.argsOf
  dsimp only
  rw [Math.at1_of _ d.isLt]
/-- The projection to step sizes and maps's entries. -/
theorem args_xp (k : Fin 2048) (r : Fin 96) : launchContents m c main_arg4 (ix2 k r) = (args m c).xp k r := by
  unfold args Math.argsOf
  dsimp only
  rw [Math.at2_of _ k.isLt r.isLt]
/-- The step sizes' projection's entries. -/
theorem args_dw (r : Fin 64) (d : Fin 2048) : launchContents m c main_arg5 (ix2 r d) = (args m c).dw r d := by
  unfold args Math.argsOf
  dsimp only
  rw [Math.at2_of _ r.isLt d.isLt]
/-- Its bias's entries. -/
theorem args_db (d : Fin 2048) : launchContents m c main_arg6 (ix1 d) = (args m c).db d := by
  unfold args Math.argsOf
  dsimp only
  rw [Math.at1_of _ d.isLt]
/-- The rates' entries. -/
theorem args_a (d : Fin 2048) (n : Fin 16) : launchContents m c main_arg7 (ix2 d n) = (args m c).a d n := by
  unfold args Math.argsOf
  dsimp only
  rw [Math.at2_of _ d.isLt n.isLt]
/-- The direct term's entries. -/
theorem args_d (d : Fin 2048) : launchContents m c main_arg8 (ix1 d) = (args m c).d d := by
  unfold args Math.argsOf
  dsimp only
  rw [Math.at1_of _ d.isLt]
/-- The output projection's entries. -/
theorem args_ow (d : Fin 2048) (e : Fin 1024) : launchContents m c main_arg9 (ix2 d e) = (args m c).ow d e := by
  unfold args Math.argsOf
  dsimp only
  rw [Math.at2_of _ d.isLt e.isLt]

/-! The buffers after each stretch before the loop. -/

/-- After the input projection. -/
abbrev W1 : Valuation τ sig (Elt Ideal) := after hostOps0 (launchContents m c)
/-- After the padding. -/
abbrev W2 : Valuation τ sig (Elt Ideal) := after hostOps0_1 (W1 m c)
/-- After the convolution. -/
abbrev W3 : Valuation τ sig (Elt Ideal) := after hostOps0_2 (W2 m c)
/-- After its activation. -/
abbrev W4 : Valuation τ sig (Elt Ideal) := after hostOps0_3 (W3 m c)
/-- After the projections of the step sizes and the maps. -/
abbrev W5 : Valuation τ sig (Elt Ideal) := after hostOps0_4 (W4 m c)
/-- After the step sizes' softplus. -/
abbrev W6 : Valuation τ sig (Elt Ideal) := after hostOps0_5 (W5 m c)
/-- At the loop's entry. -/
abbrev W7 : Valuation τ sig (Elt Ideal) := after hostOps0_6 (W6 m c)

/-- The buffers at the loop's exit. -/
abbrev X : Valuation τ sig (Elt Ideal) := after Value.condOps (Value.atK m 2048 c)

/-! What a stretch does not write it keeps. -/

/-- The stretch before `W1` keeps what it does not write. -/
theorem keep1 (r : Ref sig .tc) (h : r ∉ Value.hostOps0_W) : W1 m c r = launchContents m c r := after_of_writes_sub hostOps0 _ Value.hostOps0_writes h
/-- The stretch before `W2` keeps what it does not write. -/
theorem keep2 (r : Ref sig .tc) (h : r ∉ Value.hostOps0_1_W) : W2 m c r = W1 m c r := after_of_writes_sub hostOps0_1 _ Value.hostOps0_1_writes h
/-- The stretch before `W3` keeps what it does not write. -/
theorem keep3 (r : Ref sig .tc) (h : r ∉ Value.hostOps0_2_W) : W3 m c r = W2 m c r := after_of_writes_sub hostOps0_2 _ Value.hostOps0_2_writes h
/-- The stretch before `W4` keeps what it does not write. -/
theorem keep4 (r : Ref sig .tc) (h : r ∉ Value.hostOps0_3_W) : W4 m c r = W3 m c r := after_of_writes_sub hostOps0_3 _ Value.hostOps0_3_writes h
/-- The stretch before `W5` keeps what it does not write. -/
theorem keep5 (r : Ref sig .tc) (h : r ∉ Value.hostOps0_4_W) : W5 m c r = W4 m c r := after_of_writes_sub hostOps0_4 _ Value.hostOps0_4_writes h
/-- The stretch before `W6` keeps what it does not write. -/
theorem keep6 (r : Ref sig .tc) (h : r ∉ Value.hostOps0_5_W) : W6 m c r = W5 m c r := after_of_writes_sub hostOps0_5 _ Value.hostOps0_5_writes h
/-- The stretch before `W7` keeps what it does not write. -/
theorem keep7 (r : Ref sig .tc) (h : r ∉ Value.hostOps0_6_W) : W7 m c r = W6 m c r := after_of_writes_sub hostOps0_6 _ Value.hostOps0_6_writes h

/-- The stretches before the loop, one after another. -/
theorem entry_eq : afterL Value.preI (launchContents m c) = W7 m c := by
  simp only [afterL_cons, afterL_nil]

/-- What neither the loop nor its condition writes is at the exit as at the entry. -/
theorem keepX (r : Ref sig .tc) (h : r ∉ tripW) (h' : r ∉ Value.condOps_W) : X m c r = W7 m c r := by
  rw [← entry_eq]
  exact (exit_of _ r h').trans (atK_of m c r h 2048)

/-- An argument before the convolution. -/
theorem arg2' (r : Ref sig .tc) (h : r ∉ Value.hostOps0_W) (h1 : r ∉ Value.hostOps0_1_W) : W2 m c r = launchContents m c r := (keep2 m c r h1).trans (keep1 m c r h)
/-- An argument after the activation. -/
theorem arg4' (r : Ref sig .tc) (h : r ∉ Value.hostOps0_W) (h1 : r ∉ Value.hostOps0_1_W) (h2 : r ∉ Value.hostOps0_2_W) (h3 : r ∉ Value.hostOps0_3_W) : W4 m c r = launchContents m c r :=
  (keep4 m c r h3).trans ((keep3 m c r h2).trans (arg2' m c r h h1))
/-- An argument before the loop's arrays. -/
theorem arg6' (r : Ref sig .tc) (h : r ∉ Value.hostOps0_W) (h1 : r ∉ Value.hostOps0_1_W) (h2 : r ∉ Value.hostOps0_2_W) (h3 : r ∉ Value.hostOps0_3_W)
    (h4 : r ∉ Value.hostOps0_4_W) (h5 : r ∉ Value.hostOps0_5_W) : W6 m c r = launchContents m c r :=
  (keep6 m c r h5).trans ((keep5 m c r h4).trans (arg4' m c r h h1 h2 h3))

/-! The arguments' entries. -/

/-- The input, at launch. -/
theorem in0 (b : Fin 2) (l : Fin 2048) (k : Fin 1024) : launchContents m c main_arg0 (ix3 b l k) = (args m c).x b l k := (args_x m c b l k)
/-- The input projection, at launch. -/
theorem in1 (k : Fin 1024) (e : Fin 4096) : launchContents m c main_arg1 (ix2 k e) = (args m c).w k e := (args_w m c k e)
/-- The convolution's weights, when they are read. -/
theorem in2 (d : Fin 2048) (j : Fin 4) : W2 m c main_arg2 (ix2 d j) = (args m c).cw d j :=
  (congrFun (arg2' m c main_arg2 (by decide) (by decide)) _).trans (args_cw m c d j)
/-- The convolution's bias, when it is read. -/
theorem in3 (d : Fin 2048) : W2 m c main_arg3 (ix1 d) = (args m c).cb d :=
  (congrFun (arg2' m c main_arg3 (by decide) (by decide)) _).trans (args_cb m c d)
/-- The projection to step sizes and maps, when it is read. -/
theorem in4 (k : Fin 2048) (r : Fin 96) : W4 m c main_arg4 (ix2 k r) = (args m c).xp k r :=
  (congrFun (arg4' m c main_arg4 (by decide) (by decide) (by decide) (by decide)) _).trans (args_xp m c k r)
/-- The step sizes' projection, when it is read. -/
theorem in5 (r : Fin 64) (d : Fin 2048) : W4 m c main_arg5 (ix2 r d) = (args m c).dw r d :=
  (congrFun (arg4' m c main_arg5 (by decide) (by decide) (by decide) (by decide)) _).trans (args_dw m c r d)
/-- The step sizes' bias, when it is read. -/
theorem in6 (d : Fin 2048) : W4 m c main_arg6 (ix1 d) = (args m c).db d :=
  (congrFun (arg4' m c main_arg6 (by decide) (by decide) (by decide) (by decide)) _).trans (args_db m c d)
/-- The rates' logarithms, when they are read. -/
theorem in7 (d : Fin 2048) (n : Fin 16) : W6 m c main_arg7 (ix2 d n) = (args m c).a d n :=
  (congrFun (arg6' m c main_arg7 (by decide) (by decide) (by decide) (by decide) (by decide) (by decide)) _).trans (args_a m c d n)
/-- An argument at the loop's exit. -/
theorem argX (r : Ref sig .tc) (h : r ∉ preW) (h1 : r ∉ tripW) (h2 : r ∉ Value.condOps_W) : X m c r = launchContents m c r :=
  (exit_of _ r h2).trans ((atK_of m c r h1 2048).trans (entry_of (launchContents m c) r h))
/-- The direct term's weights, after the loop. -/
theorem in8 (d : Fin 2048) : X m c main_arg8 (ix1 d) = (args m c).d d :=
  (congrFun (argX m c main_arg8 (by decide) (by decide) (by decide)) _).trans (args_d m c d)
/-- The output projection, after the loop. -/
theorem in9 (d : Fin 2048) (e : Fin 1024) : X m c main_arg9 (ix2 d e) = (args m c).ow d e :=
  (congrFun (argX m c main_arg9 (by decide) (by decide) (by decide)) _).trans (args_ow m c d e)

/-! The entries stretch by stretch. -/

/-- The convolution. -/
theorem W3_v35 (b : Fin 2) (l : Fin 2048) (d : Fin 2048) : W3 m c main_v35 (ix3 b l d) = Math.cv (args m c) b l d :=
  s2_v35 (W2 m c) (args m c) (s1_v3 (W1 m c) (args m c) (s0_v1 (launchContents m c) (args m c) (in0 m c) (in1 m c)) (s0_c (launchContents m c))) (in2 m c) (in3 m c) b l d

/-- The convolved input. -/
theorem W4_v36 (b : Fin 2) (l : Fin 2048) (d : Fin 2048) : W4 m c main_v36 (ix3 b l d) = Math.xc (args m c) b l d :=
  s3_v36 (W3 m c) (args m c) (W3_v35 m c) b l d

/-- It is kept up to the loop. -/
theorem W6_v36 (b : Fin 2) (l : Fin 2048) (d : Fin 2048) : W6 m c main_v36 (ix3 b l d) = Math.xc (args m c) b l d :=
  (congrFun ((keep6 m c main_v36 (by decide)).trans (keep5 m c main_v36 (by decide))) _).trans (W4_v36 m c b l d)

/-- The loop's arrays at its entry. -/
theorem entry_holds : Holds (W7 m c) (args m c) 0 where
  dlt l b d := (s6_0 (W6 m c) l b d).trans (s5_v45 (W5 m c) (args m c) (s4_v44 (W4 m c) (args m c) (W4_v36 m c) (in4 m c) (in5 m c) (in6 m c)) b l d)
  inm l b n := (s6_1 (W6 m c) l b n).trans ((congrFun (keep6 m c main_v39 (by decide)) _).trans (s4_v39 (W4 m c) (args m c) (W4_v36 m c) (in4 m c) b l n))
  outm l b n := (s6_2 (W6 m c) l b n).trans ((congrFun (keep6 m c main_v40 (by decide)) _).trans (s4_v40 (W4 m c) (args m c) (W4_v36 m c) (in4 m c) b l n))
  xc l b d := (s6_3 (W6 m c) l b d).trans (W6_v36 m c b l d)
  rate d n := s6_4 (W6 m c) (args m c) (in7 m c) d n
  ctr := Value.atK_ctr m c 0
  st b d n := s6_6 (W6 m c) b d n
  y l b d h := absurd h (Nat.not_lt_zero _)

/-- The outputs at the loop's exit. -/
theorem X_y (l : Fin 2048) (b : Fin 2) (d : Fin 2048) : X m c main_v54_7 (ix3 l b d) = Math.y (args m c) b l d := by
  have h := (trips_hold (W7 m c) (args m c) (entry_holds m c) 2048 le_rfl).y l b d l.isLt
  rw [← entry_eq] at h
  exact (congrFun ((exit_of _ main_v54_7 (by decide)).trans (Value.atK_agree m c 2048 main_v54_7 (by decide))) _).trans h

/-- The convolved input at the loop's exit. -/
theorem X_v36 (b : Fin 2) (l : Fin 2048) (d : Fin 2048) : X m c main_v36 (ix3 b l d) = Math.xc (args m c) b l d :=
  (congrFun ((keepX m c main_v36 (by decide) (by decide)).trans (keep7 m c main_v36 (by decide))) _).trans (W6_v36 m c b l d)

/-- The projection's second half at the loop's exit. -/
theorem X_v2 (b : Fin 2) (l : Fin 2048) (d : Fin 2048) : X m c main_v2 (ix3 b l d) = Math.xz (args m c) b l (2048 + d) :=
  (congrFun ((keepX m c main_v2 (by decide) (by decide)).trans ((keep7 m c main_v2 (by decide)).trans ((keep6 m c main_v2 (by decide)).trans ((keep5 m c main_v2 (by decide)).trans
    ((keep4 m c main_v2 (by decide)).trans ((keep3 m c main_v2 (by decide)).trans (keep2 m c main_v2 (by decide)))))))) _).trans
    (s0_v2 (launchContents m c) (args m c) (in0 m c) (in1 m c) b l d)

/-- The reference's result, entry by entry. -/
theorem result_entry (b : Fin 2) (l : Fin 2048) (e : Fin 1024) : Z m c main_v62 (ix3 b l e) = Math.out (args m c) b l e := by
  have h7 := s7_v59 (X m c) (args m c) (X_y m c) (X_v36 m c) (in8 m c)
  have h8 := s8_v60 (after hostOps0_7 (X m c)) (args m c) fun b l d => (congrFun (after_of_writes_sub hostOps0_7 _ hostOps0_7_writes (by decide)) _).trans (X_v2 m c b l d)
  exact s9_v62 (after hostOps0_8 (after hostOps0_7 (X m c))) (args m c)
    (fun b l d => (congrFun (after_of_writes_sub hostOps0_8 _ hostOps0_8_writes (by decide)) _).trans (h7 b l d)) h8
    (fun d e => (congrFun ((after_of_writes_sub hostOps0_8 _ hostOps0_8_writes (by decide)).trans (after_of_writes_sub hostOps0_7 _ hostOps0_7_writes (by decide))) _).trans (in9 m c d e)) b l e

/-- The reference's result. -/
theorem result_eq : Z m c main_v62 = fun j : S2x2048x1024.Idx => Math.out (args m c) (j 0).val (j 1).val (j 2).val := by
  funext j
  rw [eq_ix3 j]
  exact result_entry m c _ _ _

end Cert.ReferenceIdeal.Entries

end
-- ==== Proof.Value.Entries.lean ====
module

public import proofs.«01_k».proof.Proof.KI.Spec
public import proofs.«01_k».proof.Proof.Value.Math
public import Idealize.ShloMosaic.Lib.Pointwise

@[expose] public section

set_option maxRecDepth 16384

noncomputable section

namespace Cert.KernelIdeal.Value

open Cert.KernelIdeal Cert.KernelIdeal.Gen Cert.KernelIdeal.Hand
open Idealize.ShloMosaic

/-! The first call's payloads at an entry, the named constants real. -/

/-- The constant `neg_log2e` is `-1/ln 2`. -/
theorem neg_log2e (b : BitVec FTy.f32.bits) : Named.named (F := Ideal) κ "neg_log2e" b = ((-((Real.log 2)⁻¹) : ℝ) : EReal) := rfl
/-- The constant `log2e` is `1/ln 2`. -/
theorem log2e (b : BitVec FTy.f32.bits) : Named.named (F := Ideal) κ "log2e" b = (((Real.log 2)⁻¹ : ℝ) : EReal) := rfl
/-- The constant `ln2` is `ln 2`. -/
theorem ln2 (b : BitVec FTy.f32.bits) : Named.named (F := Ideal) κ "ln2" b = ((Real.log 2 : ℝ) : EReal) := rfl

/-- Whether the block is a sequence's first, as the word the body tests. -/
theorem first_word : ∀ t : Fin grid0.N, Scalar.cmpi .eq (pid1 (grid0.coords t)) 0#32 = if t.val / 5 % 4 = 0 then 1#1 else 0#1 := by decide +kernel

/-- The groups' offsets. -/
theorem off_grp : ∀ k : Fin k0_t1_loop.trips, k0_off3 k = ![64 * k.val, 0] ∧ k0_off4 k = ![64 * k.val, 0] := by decide +kernel

/-- A column of the weights, at its place. -/
theorem emb_col (j : ℕ) (hj : j < 4) (h : ∀ a, (![0, j] : Fin 2 → ℕ) a + (![1024, 1] : Fin 2 → ℕ) a ≤ S1024x4.size a) (e : Fin 1024) :
    (Rect.unit (s := S1024x4) ![0, j] ![1024, 1] h).emb (ix2 e 0) = ix2 e ⟨j, hj⟩ := by
  funext a
  apply Fin.ext
  fin_cases a <;> simp [Rect.unit, Rect.emb] <;> first | rfl | (change _ = j; omega)

/-- Four quarters put one after the other, entry by entry. -/
theorem put4_apply (G : ℕ → ℕ → EReal) (X : Vec Ideal S512x2048 .f32) (a b c d : Vec Ideal S256x1024 .f32)
    (ha : ∀ r e, a (ix2 r e) = G r.val e.val) (hb : ∀ r e, b (ix2 r e) = G (256 + r.val) e.val)
    (hc : ∀ r e, c (ix2 r e) = G r.val (1024 + e.val)) (hd : ∀ r e, d (ix2 r e) = G (256 + r.val) (1024 + e.val)) (r : Fin 512) (e : Fin 2048) :
    VecWindow.put (s := S512x2048) (VecWindow.put (VecWindow.put (VecWindow.put X ![0, 0] S256x1024.size a) ![256, 0] S256x1024.size b) ![0, 1024] S256x1024.size c)
      ![256, 1024] S256x1024.size d (ix2 r e) = G r.val e.val := by
  have key : ∀ (o1 o2 : ℕ) (w : Vec Ideal S256x1024 .f32) (hw : ∀ r e, w (ix2 r e) = G (o1 + r.val) (o2 + e.val))
      (h : ∀ z, (![o1, o2] : Fin 2 → ℕ) z ≤ ((ix2 r e : S512x2048.Idx) z).val ∧ ((ix2 r e : S512x2048.Idx) z).val < (![o1, o2] : Fin 2 → ℕ) z + S256x1024.size z),
      w (Rect.unitLocal (s := S512x2048) (off := ![o1, o2]) (size := S256x1024.size) (ix2 r e) h) = G r.val e.val := by
    intro o1 o2 w hw h
    have h0 : o1 ≤ r.val ∧ r.val < o1 + 256 := h 0
    have h1 : o2 ≤ e.val ∧ e.val < o2 + 1024 := h 1
    rw [show Rect.unitLocal (s := S512x2048) (off := ![o1, o2]) (size := S256x1024.size) (ix2 r e) h = ix2 (⟨r.val - o1, by omega⟩ : Fin 256) (⟨e.val - o2, by omega⟩ : Fin 1024) from by
      funext z; apply Fin.ext; fin_cases z <;> rfl]
    rw [hw]
    congr 1
    · show o1 + (r.val - o1) = _; omega
    · show o2 + (e.val - o2) = _; omega
  unfold VecWindow.put
  split_ifs with e1 e2 e3 e4
  · exact key 256 1024 d hd e1
  · exact key 0 1024 c (fun r e => by rw [hc, Nat.zero_add]) e2
  · exact key 256 0 b (fun r e => by rw [hb, Nat.zero_add]) e3
  · exact key 0 0 a (fun r e => by rw [ha, Nat.zero_add, Nat.zero_add]) e4
  · exfalso
    have h0 : r.val < 512 := r.isLt
    have h1 : e.val < 2048 := e.isLt
    simp only [Fin.forall_fin_two, not_and_or] at e1 e2 e3 e4
    have k1 : ¬ (256 ≤ r.val ∧ r.val < 256 + 256) ∨ ¬ (1024 ≤ e.val ∧ e.val < 1024 + 1024) := e1.imp (fun h => not_and_or.mpr h) (fun h => not_and_or.mpr h)
    have k2 : ¬ (0 ≤ r.val ∧ r.val < 0 + 256) ∨ ¬ (1024 ≤ e.val ∧ e.val < 1024 + 1024) := e2.imp (fun h => not_and_or.mpr h) (fun h => not_and_or.mpr h)
    have k3 : ¬ (256 ≤ r.val ∧ r.val < 256 + 256) ∨ ¬ (0 ≤ e.val ∧ e.val < 0 + 1024) := e3.imp (fun h => not_and_or.mpr h) (fun h => not_and_or.mpr h)
    have k4 : ¬ (0 ≤ r.val ∧ r.val < 0 + 256) ∨ ¬ (0 ≤ e.val ∧ e.val < 0 + 1024) := e4.imp (fun h => not_and_or.mpr h) (fun h => not_and_or.mpr h)
    omega

/-- The blocks hold the arguments' entries. -/
structure Reads (A : Math.Args) (B : Blocks Ideal) : Prop where
  x : ∀ q n, q < 8 → n < 5 → ∀ (r : Fin 512) (k : Fin 1024), B.x (tq q n) (ix3 0 r k) = A.x (q / 4) (512 * (q % 4) + r.val) k
  w : ∀ q n, q < 8 → n < 4 → ∀ (k : Fin 1024) (e : Fin 1024), B.w (tq q n) (ix2 k e) = A.w k (1024 * n + e.val)
  cw : ∀ q n, q < 8 → n < 2 → ∀ (e : Fin 1024) (j : Fin 4), B.cw (tq q n) (ix2 e j) = A.cw (1024 * n + e.val) j
  cb : ∀ q n, q < 8 → n < 2 → ∀ (e : Fin 1024), B.cb (tq q n) (ix2 0 e) = A.cb (1024 * n + e.val)
  xp : ∀ q, q < 8 → ∀ (k : Fin 2048) (r : Fin 96), B.xp (tq q 1) (ix2 k r) = A.xp k r
  dw : ∀ q, q < 8 → ∀ (r : Fin 64) (d : Fin 2048), B.dw (tq q 1) (ix2 r d) = A.dw r d
  db : ∀ q, q < 8 → ∀ (d : Fin 2048), B.db (tq q 1) (ix2 0 d) = A.db d
  a : ∀ q, q < 8 → ∀ (n : Fin 16) (d : Fin 2048), B.a (tq q 4) (ix2 n d) = A.a d n
  d : ∀ q, q < 8 → ∀ (d : Fin 2048), B.d (tq q 4) (ix2 0 d) = A.d d

variable {A : Math.Args} {B : Blocks Ideal} (H : Reads A B)

include H

/-- The input projection's first and second 256 rows. -/
theorem proj_top (q n : ℕ) (hq : q < 8) (hn : n < 4) (r : Fin 256) (e : Fin 1024) :
    k0_pay21 (B.x (tq q n)) (B.w (tq q n)) (ix2 r e) = Math.xz A (q / 4) (512 * (q % 4) + r.val) (1024 * n + e.val) := by
  pointwise [k0_pay21, k0_pay20]
  exact Finset.sum_congr rfl fun k _ => by rw [H.x q n hq (by omega), H.w q n hq hn]

/-- The projection of the block's last 256 rows. -/
theorem proj_bot (q n : ℕ) (hq : q < 8) (hn : n < 4) (r : Fin 256) (e : Fin 1024) :
    k0_pay22 (B.x (tq q n)) (B.w (tq q n)) (ix2 r e) = Math.xz A (q / 4) (512 * (q % 4) + (256 + r.val)) (1024 * n + e.val) := by
  pointwise [k0_pay22, k0_pay20]
  exact Finset.sum_congr rfl fun k _ => by rw [H.x q n hq (by omega), H.w q n hq hn]

/-- The last three rows of a block. -/
theorem tail_apply (q n : ℕ) (hq : q < 8) (hn : n < 4) (i : Fin 3) (e : Fin 1024) :
    last3 (tailAt B (tq q n)) (ix3 0 i e) = Math.xz A (q / 4) (512 * (q % 4) + 509 + i.val) (1024 * n + e.val) := by
  have h5 : (Rect.unit (s := S1x8x1024) ![0, 5, 0] S1x3x1024.size (by decide)).emb (ix3 0 i e) = ix3 0 ⟨5 + i.val, by omega⟩ e := by
    funext a
    apply Fin.ext
    fin_cases a <;> simp [Rect.unit, Rect.emb] <;> rfl
  refine (congrArg (tailAt B (tq q n)) h5).trans ?_
  unfold tailAt
  pointwise [k0_pay2]
  rw [proj_bot H q n hq hn]
  congr 1
  (try simp only) <;> omega

/-- The rows the convolution reads: the three before the block, then the block's. -/
theorem ext_apply (q n : ℕ) (hq : q < 8) (hn : n < 2) (r : Fin 259) (e : Fin 1024) :
    k0_pay23 (pid1 (grid0.coords (tq q n))) (B.x (tq q n)) (B.w (tq q n)) (pv B q n) (ix2 r e) = Math.tap A (q / 4) (512 * (q % 4) + r.val) (1024 * n + e.val) := by
  pointwise [k0_pay23]
  by_cases h : r.val < 3
  · rw [dif_pos h, first_word, tq_div q n (by omega)]
    by_cases h0 : q % 4 = 0
    · rw [if_pos h0, Math.tap_lt A (by omega)]; rfl
    · rw [if_neg h0, Math.tap_ge A (by omega)]
      show pv B q n (ix3 0 _ e) = _
      unfold pv
      rw [if_neg (by rintro rfl; exact h0 rfl), tail_apply H (q - 1) n (by omega) (by omega)]
      congr 1 <;> (try simp only) <;> omega
  · rw [dif_neg h, proj_top H q n hq (by omega), Math.tap_ge A (by omega)]
    congr 1
    (try simp only) <;> omega

/-- The convolved and gated first 256 rows, -/
theorem cvTop_apply (q n : ℕ) (hq : q < 8) (hn : n < 2) (r : Fin 256) (e : Fin 1024) :
    cvTop B q n (ix2 r e) = Math.xc A (q / 4) (512 * (q % 4) + r.val) (1024 * n + e.val) := by
  unfold cvTop
  pointwise [conv1, k0_pay24, k0_pay25, k0_pay26, neg_log2e, VecWindow.window]
  rw [emb_col 0 (by omega), emb_col 1 (by omega), emb_col 2 (by omega), emb_col 3 (by omega), ext_apply H q n hq hn, ext_apply H q n hq hn, ext_apply H q n hq hn, ext_apply H q n hq hn,
    H.cw q n hq hn, H.cw q n hq hn, H.cw q n hq hn, H.cw q n hq hn, H.cb q n hq hn]
  refine (Math.silu_div _).trans ?_
  unfold Math.xc Math.cv
  simp only [Nat.add_comm _ r.val, ← Nat.add_assoc]

/-- and the second. -/
theorem cvBot_apply (q n : ℕ) (hq : q < 8) (hn : n < 2) (r : Fin 256) (e : Fin 1024) :
    k0_pay1 (cvBot B q n) (B.cb (tq q n)) (ix2 r e) = Math.xc A (q / 4) (512 * (q % 4) + (256 + r.val)) (1024 * n + e.val) := by
  have hx : ∀ (j : ℕ) (p1 : j < 3 → 253 + j < 256) (p2 : ¬ j < 3 → j - 3 < 256),
      (if h : j < 3 then k0_pay21 (B.x (tq q n)) (B.w (tq q n)) (ix2 ⟨253 + j, p1 h⟩ e) else k0_pay22 (B.x (tq q n)) (B.w (tq q n)) (ix2 ⟨j - 3, p2 h⟩ e))
        = Math.tap A (q / 4) (512 * (q % 4) + (256 + j)) (1024 * n + e.val) := by
    intro j p1 p2
    rw [Math.tap_ge A (by omega)]
    by_cases h : j < 3
    · rw [dif_pos h, proj_top H q n hq (by omega)]
      congr 1
      (try simp only) <;> omega
    · rw [dif_neg h, proj_bot H q n hq (by omega)]
      congr 1
      (try simp only) <;> omega
  have h3 : k0_pay22 (B.x (tq q n)) (B.w (tq q n)) (ix2 r e) = Math.tap A (q / 4) (512 * (q % 4) + (256 + (3 + r.val))) (1024 * n + e.val) := by
    rw [Math.tap_ge A (by omega), proj_bot H q n hq (by omega)]
    congr 1
    omega
  unfold cvBot
  pointwise [k0_pay1, conv2, k0_pay27, neg_log2e, VecWindow.window]
  rw [emb_col 0 (by omega), emb_col 1 (by omega), emb_col 2 (by omega), emb_col 3 (by omega), hx r.val, hx (1 + r.val), hx (2 + r.val), h3,
    H.cw q n hq hn, H.cw q n hq hn, H.cw q n hq hn, H.cw q n hq hn, H.cb q n hq hn]
  refine (Math.silu_div _).trans ?_
  unfold Math.xc Math.cv
  simp only [Nat.add_comm _ r.val, ← Nat.add_assoc]

/-- The convolved block. -/
theorem xc_apply (q : ℕ) (hq : q < 8) (r : Fin 512) (d : Fin 2048) : xc B q (ix2 r d) = Math.xc A (q / 4) (512 * (q % 4) + r.val) d := by
  refine put4_apply (fun r d => Math.xc A (q / 4) (512 * (q % 4) + r) d) _ _ _ _ _ (fun r e => ?_) (fun r e => ?_) (fun r e => ?_) (fun r e => ?_) r d
  · pointwise [k0_pay3]
    rw [cvTop_apply H q 0 hq (by omega), Nat.mul_zero, Nat.zero_add]
  · pointwise [k0_pay4]
    rw [cvBot_apply H q 0 hq (by omega), Nat.mul_zero, Nat.zero_add]
  · pointwise [k0_pay16]
    exact cvTop_apply H q 1 hq (by omega) r e
  · pointwise [k0_pay17]
    exact cvBot_apply H q 1 hq (by omega) r e

/-- The gate. -/
theorem zg_apply (q : ℕ) (hq : q < 8) (r : Fin 512) (d : Fin 2048) : zg B q (ix2 r d) = Math.zg A (q / 4) (512 * (q % 4) + r.val) d := by
  refine put4_apply (fun r d => Math.zg A (q / 4) (512 * (q % 4) + r) d) _ _ _ _ _ (fun r e => ?_) (fun r e => ?_) (fun r e => ?_) (fun r e => ?_) r d
  · pointwise [k0_pay7, k0_pay6, neg_log2e]
    exact (Math.silu_div _).trans (congrArg Math.silu (Finset.sum_congr rfl fun k _ => by rw [H.x q 2 hq (by omega), H.w q 2 hq (by omega)]))
  · pointwise [k0_pay8, k0_pay6, neg_log2e]
    exact (Math.silu_div _).trans (congrArg Math.silu (Finset.sum_congr rfl fun k _ => by rw [H.x q 2 hq (by omega), H.w q 2 hq (by omega)]))
  · pointwise [k0_pay10, k0_pay9, neg_log2e]
    exact (Math.silu_div _).trans (congrArg Math.silu (Finset.sum_congr rfl fun k _ => by
      rw [H.x q 3 hq (by omega), H.w q 3 hq (by omega), show 1024 * 3 + e.val = 2048 + (1024 + e.val) by omega]))
  · pointwise [k0_pay11, k0_pay9, neg_log2e]
    exact (Math.silu_div _).trans (congrArg Math.silu (Finset.sum_congr rfl fun k _ => by
      rw [H.x q 3 hq (by omega), H.w q 3 hq (by omega), show 1024 * 3 + e.val = 2048 + (1024 + e.val) by omega]))

/-- The projection to step sizes and maps. -/
theorem dbl_apply (q : ℕ) (hq : q < 8) (r : Fin 512) (j : Fin 96) : k0_pay18 (xc B q) (B.xp (tq q 1)) (ix2 r j) = Math.dbl A (q / 4) (512 * (q % 4) + r.val) j := by
  pointwise [k0_pay18]
  exact Finset.sum_congr rfl fun k _ => by rw [xc_apply H q hq, H.xp q hq]

/-- The step sizes, -/
theorem dlt_apply (q : ℕ) (hq : q < 8) (r : Fin 512) (d : Fin 2048) : dlt B q (ix2 r d) = Math.dlt A (q / 4) (512 * (q % 4) + r.val) d := by
  have hs : (∑ j : Fin 64, k0_pay18 (xc B q) (B.xp (tq q 1)) (ix2 r ⟨j.val, by omega⟩) * B.dw (tq q 1) (ix2 j d)) + B.db (tq q 1) (ix2 0 d)
      = (∑ j : Fin 64, Math.dbl A (q / 4) (512 * (q % 4) + r.val) j * A.dw j d) + A.db d := by
    rw [H.db q hq]
    congr 1
    exact Finset.sum_congr rfl fun k _ => by rw [dbl_apply H q hq, H.dw q hq]
  unfold dlt
  pointwise [k0_pay19, neg_log2e, log2e, ln2]
  rw [hs]
  exact Math.softplus_exp2 _

/-- and the maps. -/
theorem bc_apply (q : ℕ) (hq : q < 8) (r : Fin 512) (j : Fin 32) : bc B q (ix2 r j) = Math.dbl A (q / 4) (512 * (q % 4) + r.val) (64 + j.val) := by
  unfold bc
  pointwise [k0_pay5]
  exact dbl_apply H q hq r _

end Cert.KernelIdeal.Value
end
-- ==== Proof.Value.Stack.lean ====
module

public import proofs.«01_k».proof.Proof.Value.Entries
public import Idealize.ShloMosaic.Lib.Pointwise

@[expose] public section

set_option maxRecDepth 16384

noncomputable section

namespace Cert.KernelIdeal.Value

open Cert.KernelIdeal Cert.KernelIdeal.Gen Cert.KernelIdeal.Hand
open Idealize.ShloMosaic

/-! The scan: the state before every row, the stack of states, the rows written. -/

unseal hst in
/-- The state before the first row. -/
theorem hst_zero (a : FVec Ideal S16x2048 .f32) (dg ug : FVec Ideal S64x2048 .f32) (bcT : FVec Ideal S32x64 .f32) (h0 : FVec Ideal S16x2048 .f32) (h : 0 ≤ 64) : hst a dg ug bcT h0 0 h = h0 := rfl

unseal hst in
/-- The state after one more row. -/
theorem hst_succ (a : FVec Ideal S16x2048 .f32) (dg ug : FVec Ideal S64x2048 .f32) (bcT : FVec Ideal S32x64 .f32) (h0 : FVec Ideal S16x2048 .f32) (n : ℕ) (hn : n + 1 ≤ 64) :
    ∃ hj, hst a dg ug bcT h0 (n + 1) hn = stepAt a dg ug bcT n hj (hst a dg ug bcT h0 n (Nat.le_of_lt hn)) := ⟨_, rfl⟩

unseal hsL in
/-- The stack of no states. -/
theorem hsL_zero (a : FVec Ideal S16x2048 .f32) (dg ug : FVec Ideal S64x2048 .f32) (bcT : FVec Ideal S32x64 .f32) (h0 : FVec Ideal S16x2048 .f32) (h : 0 ≤ 64) : hsL a dg ug bcT h0 0 h = [] := rfl

unseal hsL in
/-- The stack with one more state. -/
theorem hsL_succ (a : FVec Ideal S16x2048 .f32) (dg ug : FVec Ideal S64x2048 .f32) (bcT : FVec Ideal S32x64 .f32) (h0 : FVec Ideal S16x2048 .f32) (n : ℕ) (hn : n + 1 ≤ 64) :
    hsL a dg ug bcT h0 (n + 1) hn = ⟨Rect.unit ![16 * n, 0] S16x2048.size (inb_row n hn), shapeCast S16x2048 (hst a dg ug bcT h0 (n + 1) hn) shapeCasts_S16x2048_S16x2048⟩ :: hsL a dg ug bcT h0 n (Nat.le_of_lt hn) := rfl

/-- The state after `n` rows of a group, from the entries the group reads. -/
theorem hst_apply (A : Math.Args) (b L : ℕ) {a : FVec Ideal S16x2048 .f32} {dg ug : FVec Ideal S64x2048 .f32} {bcT : FVec Ideal S32x64 .f32} {h0 : FVec Ideal S16x2048 .f32}
    (ha : ∀ s d, a (ix2 s d) = Ideal.exp (A.a (d : Fin 2048) (s : Fin 16)) * ((-((Real.log 2)⁻¹) : ℝ) : EReal))
    (hd : ∀ j d, dg (ix2 j d) = Math.dlt A b (L + (j : Fin 64)) (d : Fin 2048))
    (hu : ∀ j d, ug (ix2 j d) = Math.dlt A b (L + (j : Fin 64)) (d : Fin 2048) * Math.xc A b (L + (j : Fin 64)) (d : Fin 2048))
    (hb : ∀ s j, bcT (ix2 s j) = Math.dbl A b (L + (j : Fin 64)) (64 + (s : Fin 32)))
    (h : ∀ s d, h0 (ix2 s d) = Math.st A b (d : Fin 2048) (s : Fin 16) L) (n : ℕ) (hn : n ≤ 64) (s : Fin 16) (d : Fin 2048) :
    hst a dg ug bcT h0 n hn (ix2 s d) = Math.st A b d s (L + n) := by
  induction n generalizing s d with
  | zero => rw [hst_zero]; exact h s d
  | succ n ih =>
    obtain ⟨hj, e⟩ := hst_succ a dg ug bcT h0 n hn
    rw [e]
    pointwise [stepAt]
    rw [ih, ha, hd, hu, hb]
    exact congrArg (fun t => t * _ + _) (Math.decay_exp2 _ _)

/-- The pieces of the stack: state `i + 1`'s sixteen rows at row `16 i`. -/
theorem hsL_mem (a : FVec Ideal S16x2048 .f32) (dg ug : FVec Ideal S64x2048 .f32) (bcT : FVec Ideal S32x64 .f32) (h0 : FVec Ideal S16x2048 .f32) (G : S1024x2048.Idx → EReal)
    (hG : ∀ (i : ℕ) (hi : i < 64) (s : Fin 16) (d : Fin 2048), hst a dg ug bcT h0 (i + 1) hi (ix2 s d) = G (ix2 ⟨16 * i + s.val, by omega⟩ d)) (n : ℕ) (hn : n ≤ 64) :
    (∀ p ∈ hsL a dg ug bcT h0 n hn, ∀ x : p.1.shape.Idx, p.2 x = G (p.1.emb x))
      ∧ ∀ y : S1024x2048.Idx, (y 0).val < 16 * n → ∃ p ∈ hsL a dg ug bcT h0 n hn, y ∈ p.1.set := by
  induction n with
  | zero => exact ⟨fun p hp => by rw [hsL_zero] at hp; exact absurd hp List.not_mem_nil, fun y hy => absurd hy (by omega)⟩
  | succ n ih =>
    obtain ⟨ih1, ih2⟩ := ih (Nat.le_of_lt hn)
    rw [hsL_succ]
    refine ⟨fun p hp => ?_, fun y hy => ?_⟩
    · rcases List.mem_cons.mp hp with rfl | hp
      · intro x
        obtain ⟨s, d, rfl⟩ : ∃ (s : Fin 16) (d : Fin 2048), x = ix2 s d := ⟨x 0, x 1, eq_ix2 x⟩
        show shapeCast S16x2048 _ _ (ix2 s d) = _
        pointwise
        rw [hG n hn]
        congr 1
        funext z
        apply Fin.ext
        rw [Rect.emb_apply]
        fin_cases z
        · show 16 * n + s.val = 16 * n + 1 * s.val; omega
        · show d.val = 0 + 1 * d.val; omega
      · exact ih1 p hp
    · by_cases hy' : (y 0).val < 16 * n
      · obtain ⟨p, hp, hy⟩ := ih2 y hy'
        exact ⟨p, List.mem_cons_of_mem _ hp, hy⟩
      · refine ⟨_, List.mem_cons_self, ?_⟩
        rw [Rect.mem_set_unit]
        intro z
        have h1 : (y 1).val < 2048 := (y 1).isLt
        fin_cases z
        · exact ⟨by show 16 * n ≤ (y 0).val; omega, by show (y 0).val < 16 * n + 16; omega⟩
        · exact ⟨Nat.zero_le _, by show (y 1).val < 0 + 2048; omega⟩

/-- A vector repeated side by side, read at a column. -/
theorem tile_at (x : S64x16.Idx → EReal) (j : S64x1024.Idx) (n : ℕ) : ∀ hs c hc, c < 16 * (n + 1) →
    concatenateAt S64x1024 1 j (List.replicate (n + 1) (⟨S64x16, x⟩ : (s : Shape) × (s.Idx → EReal))) hs c hc = x (ix2 (j 0) ⟨c % 16, Nat.mod_lt _ (by omega)⟩) := by
  induction n with
  | zero =>
    intro hs c hc h
    refine (concatenateAt_singleton _ _ _ _ _ _).trans (congrArg x ?_)
    funext z
    apply Fin.ext
    fin_cases z
    · rfl
    · show c = c % 16; omega
  | succ n ih =>
    intro hs c hc h
    refine (concatenateAt_cons _ _ _ _ (List.replicate n _) _ _ _).trans ?_
    split_ifs with hlt
    · have hlt' : c < 16 := hlt
      refine congrArg x ?_
      funext z
      apply Fin.ext
      fin_cases z
      · rfl
      · show c = c % 16; omega
    · have hlt' : ¬ c < 16 := hlt
      refine (ih _ (c - 16) _ (by omega)).trans ?_
      congr 2
      apply Fin.ext
      show (c - 16) % 16 = c % 16
      omega

/-- The sixteenth of a column number, as the words compute it. -/
theorem word_div : ∀ k : Fin 1024, Scalar.select
        (IntOp.andi
          (IntOp.cmpi CmpIPredicate.ne
            (IntOp.subi (BitVec.setWidth 32 (IntOp.cmpi CmpIPredicate.sgt (BitVec.ofNat 32 k.val) 0#32))
              (BitVec.setWidth 32 (IntOp.cmpi CmpIPredicate.slt (BitVec.ofNat 32 k.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 k.val) 16#32) 0#32))
        (IntOp.subi (IntOp.divsi ArithUnit.vector (BitVec.ofNat 32 k.val) 16#32) 1#32)
        (IntOp.divsi ArithUnit.vector (BitVec.ofNat 32 k.val) 16#32) = BitVec.ofNat 32 (k.val / 16) := by
  decide +kernel

/-- The mask: a column of the spread map belongs to the row of its sixteenth. -/
theorem mask_apply (j : Fin 64) (k : Fin 1024) : k0_pay14 (ix2 j k) = if k.val / 16 = j.val then 1#1 else 0#1 := by
  pointwise [k0_pay14]
  rw [word_div]
  have e : (BitVec.ofNat 32 (k.val / 16) = BitVec.ofNat 32 j.val) ↔ k.val / 16 = j.val := by
    rw [← BitVec.toNat_inj, BitVec.toNat_ofNat, BitVec.toNat_ofNat]
    omega
  by_cases h : k.val / 16 = j.val
  · rw [if_pos h, h]; exact IntOp.cmpi_eq_self _
  · rw [if_neg h]
    show BitVec.ofBool (BitVec.ofNat 32 (k.val / 16) == BitVec.ofNat 32 j.val) = 0#1
    rw [beq_eq_false_iff_ne.mpr (fun h' => h (e.mp h'))]
    rfl

/-- The output map spread over its row's sixteen columns, zero elsewhere. -/
theorem cdiag_apply (bc : Vec Ideal S64x32 .f32) (j : Fin 64) (k : Fin 1024) :
    k0_pay178 k0_pay14 bc (ix2 j k) = if k.val / 16 = j.val then bc (ix2 j ⟨16 + k.val % 16, by omega⟩) else 0 := by
  have ht : ∀ (x : S64x16.Idx → EReal) (h : _), concatenate S64x1024 1 (List.replicate 64 (⟨S64x16, x⟩ : (s : Shape) × (s.Idx → EReal))) h (ix2 j k) = x (ix2 j ⟨k.val % 16, Nat.mod_lt _ (by omega)⟩) :=
    fun x h => (concatenate_apply _ _ _ _ _).trans (tile_at x (ix2 j k) 63 _ _ _ k.isLt)
  unfold k0_pay178
  show Scalar.select (k0_pay14 (ix2 j k)) _ _ = _
  rw [mask_apply]
  by_cases h : k.val / 16 = j.val
  · rw [if_pos h, if_pos h]
    refine (Scalar.select_of_eq_one (by rfl) _ _).trans ?_
    refine (ht _ _).trans ?_
    pointwise
  · rw [if_neg h, if_neg h]
    refine (Scalar.select_of_eq_zero (by rfl) _ _).trans ?_
    pointwise

/-- A product with the spread map is a product over the row's sixteen columns. -/
theorem sum_diag (j : Fin 64) (C H : ℕ → EReal) : (∑ k : Fin 1024, (if k.val / 16 = j.val then C (k.val % 16) else 0) * H k.val) = ∑ n : Fin 16, C n.val * H (16 * j.val + n.val) := by
  symm
  refine Finset.sum_of_injOn (fun n : Fin 16 => (⟨16 * j.val + n.val, by omega⟩ : Fin 1024)) ?_ ?_ ?_ ?_
  · intro a _ b _ h
    have := congrArg Fin.val h
    apply Fin.ext
    simp only at this
    omega
  · intro a _; exact Finset.mem_coe.mpr (Finset.mem_univ _)
  · intro k _ hk
    rw [if_neg, zero_mul]
    intro h
    exact hk ⟨⟨k.val % 16, Nat.mod_lt _ (by omega)⟩, Finset.mem_coe.mpr (Finset.mem_univ _), Fin.ext (by simp only; omega)⟩
  · intro n _
    simp only
    rw [if_pos (by omega), show (16 * j.val + n.val) % 16 = n.val by omega]

end Cert.KernelIdeal.Value
end
-- ==== Proof.Value.Groups.lean ====
module

public import proofs.«01_k».proof.Proof.Value.Stack
public import Idealize.ShloMosaic.Lib.Pointwise

@[expose] public section

set_option maxRecDepth 16384

noncomputable section

namespace Cert.KernelIdeal.Value

open Cert.KernelIdeal Cert.KernelIdeal.Gen Cert.KernelIdeal.Hand
open Idealize.ShloMosaic

/-! The scan over a block: its eight groups, and the blocks one after the other. -/

/-- A group's rows, at their place in the block. -/
theorem grp_apply (i : grid0.Coords) (h6 : k0_cond6 i = 1#1) (k : Fin k0_t1_loop.trips) (x : Vec Ideal S512x2048 .f32) (j : Fin 64) (d : Fin 2048) (hk : 64 * k.val + j.val < 512) :
    grp i h6 k x (ix2 j d) = x (ix2 ⟨64 * k.val + j.val, hk⟩ d) := by
  refine congrArg x ?_
  funext z
  apply Fin.ext
  rw [Rect.emb_apply]
  have e := congrFun (off_grp k).1 z
  fin_cases z
  · show k0_off3 k 0 + 1 * j.val = 64 * k.val + j.val
    rw [show k0_off3 k 0 = 64 * k.val from e]; omega
  · show k0_off3 k 1 + 1 * d.val = d.val
    rw [show k0_off3 k 1 = 0 from e]; omega

/-- Its maps likewise. -/
theorem grpBC_apply (i : grid0.Coords) (h6 : k0_cond6 i = 1#1) (k : Fin k0_t1_loop.trips) (x : Vec Ideal S512x32 .f32) (j : Fin 64) (d : Fin 32) (hk : 64 * k.val + j.val < 512) :
    grpBC i h6 k x (ix2 j d) = x (ix2 ⟨64 * k.val + j.val, hk⟩ d) := by
  refine congrArg x ?_
  funext z
  apply Fin.ext
  rw [Rect.emb_apply]
  have e := congrFun (off_grp k).2 z
  fin_cases z
  · show k0_off4 k 0 + 1 * j.val = 64 * k.val + j.val
    rw [show k0_off4 k 0 = 64 * k.val from e]; omega
  · show k0_off4 k 1 + 1 * d.val = d.val
    rw [show k0_off4 k 1 = 0 from e]; omega

/-- What a block's scan reads: rows `L` on of sequence `b`. -/
structure Rows (A : Math.Args) (b L : ℕ) (av : Vec Ideal S16x2048 .f32) (dv : Vec Ideal S1x2048 .f32) (x14 x15 x16 : Vec Ideal S512x2048 .f32) (x17 : Vec Ideal S512x32 .f32) : Prop where
  a : ∀ s d, av (ix2 s d) = A.a (d : Fin 2048) (s : Fin 16)
  d : ∀ d, dv (ix2 0 d) = A.d (d : Fin 2048)
  x : ∀ r d, x14 (ix2 r d) = Math.xc A b (L + (r : Fin 512)) (d : Fin 2048)
  z : ∀ r d, x15 (ix2 r d) = Math.zg A b (L + (r : Fin 512)) (d : Fin 2048)
  t : ∀ r d, x16 (ix2 r d) = Math.dlt A b (L + (r : Fin 512)) (d : Fin 2048)
  m : ∀ r j, x17 (ix2 r j) = Math.dbl A b (L + (r : Fin 512)) (64 + (j : Fin 32))

section
variable {A : Math.Args} {b L : ℕ} {i : grid0.Coords} {h6 : k0_cond6 i = 1#1} {av : Vec Ideal S16x2048 .f32} {dv : Vec Ideal S1x2048 .f32} {x14 x15 x16 : Vec Ideal S512x2048 .f32} {x17 : Vec Ideal S512x32 .f32}
  (R : Rows A b L av dv x14 x15 x16 x17)

include R

/-- The state within a group. -/
theorem hst_grp (k : Fin k0_t1_loop.trips) {h : Vec Ideal S16x2048 .f32} (hh : ∀ s d, h (ix2 s d) = Math.st A b (d : Fin 2048) (s : Fin 16) (L + 64 * k.val)) (n : ℕ) (hn : n ≤ 64) (s : Fin 16) (d : Fin 2048) :
    hst (k0_pay13 av) (grp i h6 k x16) (k0_pay29 (grp i h6 k x16) (grp i h6 k x14)) (k0_pay28 (grpBC i h6 k x17)) h n hn (ix2 s d) = Math.st A b d s (L + 64 * k.val + n) := by
  have hk : k.val < 8 := trips8 ▸ k.isLt
  have ht : ∀ (j : Fin 64) (d : Fin 2048), grp i h6 k x16 (ix2 j d) = Math.dlt A b (L + 64 * k.val + j.val) d := fun j d => by
    rw [grp_apply i h6 k x16 j d (by omega), R.t, Nat.add_assoc]
  refine hst_apply A b (L + 64 * k.val) (fun s d => ?_) ht (fun j d => ?_) (fun s j => ?_) hh n hn s d
  · pointwise [k0_pay13, neg_log2e]
    rw [R.a]
  · pointwise [k0_pay29]
    rw [ht, grp_apply i h6 k x14 j d (by omega), R.x, Nat.add_assoc]
  · pointwise [k0_pay28]
    rw [grpBC_apply i h6 k x17 j s (by omega), R.m, Nat.add_assoc]

/-- The state a group leaves. -/
theorem tripH_apply (k : Fin k0_t1_loop.trips) {h : Vec Ideal S16x2048 .f32} (hh : ∀ s d, h (ix2 s d) = Math.st A b (d : Fin 2048) (s : Fin 16) (L + 64 * k.val)) (s : Fin 16) (d : Fin 2048) :
    tripH i h6 av x14 x16 x17 k h (ix2 s d) = Math.st A b d s (L + 64 * (k.val + 1)) := by
  unfold tripH
  pointwise
  rw [hst_grp R k hh, Nat.mul_add, Nat.mul_one, Nat.add_assoc]

/-- The group's stacked states. -/
theorem tripHs_apply (k : Fin k0_t1_loop.trips) {h : Vec Ideal S16x2048 .f32} (hh : ∀ s d, h (ix2 s d) = Math.st A b (d : Fin 2048) (s : Fin 16) (L + 64 * k.val)) (p : Fin 1024) (d : Fin 2048) :
    tripHs i h6 av x14 x16 x17 k h (ix2 p d) = Math.st A b d (p.val % 16) (L + 64 * k.val + (p.val / 16 + 1)) := by
  have key := hsL_mem (k0_pay13 av) (grp i h6 k x16) (k0_pay29 (grp i h6 k x16) (grp i h6 k x14)) (k0_pay28 (grpBC i h6 k x17)) h
    (fun y => Math.st A b (y 1).val ((y 0).val % 16) (L + 64 * k.val + ((y 0).val / 16 + 1))) (fun n hn s d => by
      rw [hst_grp R k hh]
      show _ = Math.st A b d.val ((16 * n + s.val) % 16) (L + 64 * k.val + ((16 * n + s.val) / 16 + 1))
      rw [show (16 * n + s.val) % 16 = s.val by omega, show (16 * n + s.val) / 16 = n by omega]) 64 (Nat.le_refl 64)
  exact View.canon_apply_of_pieces (fun y : S1024x2048.Idx => Math.st A b (y 1).val ((y 0).val % 16) (L + 64 * k.val + ((y 0).val / 16 + 1))) _ key.1 (ix2 p d) (key.2 (ix2 p d) (by show p.val < 16 * 64; omega))

/-- The rows a group writes. -/
theorem tripG_apply (k : Fin k0_t1_loop.trips) {h : Vec Ideal S16x2048 .f32} (hh : ∀ s d, h (ix2 s d) = Math.st A b (d : Fin 2048) (s : Fin 16) (L + 64 * k.val)) (j : Fin 64) (d : Fin 2048) :
    tripG i h6 av dv x14 x15 x16 x17 k h (ix3 0 j d) = Math.gt A b (L + (64 * k.val + j.val)) d := by
  have hk : k.val < 8 := trips8 ▸ k.isLt
  have hs : (∑ p : Fin 1024, k0_pay178 k0_pay14 (grpBC i h6 k x17) (ix2 j p) * tripHs i h6 av x14 x16 x17 k h (ix2 p d)) = Math.y A b (L + (64 * k.val + j.val)) d := by
    refine (Finset.sum_congr rfl fun p _ => ?_).trans ((sum_diag j (fun n => Math.dbl A b (L + (64 * k.val + j.val)) (80 + n)) (fun p => Math.st A b d (p % 16) (L + 64 * k.val + (p / 16 + 1)))).trans ?_)
    · rw [cdiag_apply, tripHs_apply R k hh, grpBC_apply i h6 k x17 j _ (by omega), R.m]
      refine congrArg (fun t => t * _) ?_
      refine if_congr Iff.rfl (congrArg _ ?_) rfl
      show 64 + (16 + p.val % 16) = 80 + p.val % 16
      omega
    · unfold Math.y
      refine Finset.sum_congr rfl fun n _ => ?_
      rw [show (16 * j.val + n.val) % 16 = n.val by omega, show (16 * j.val + n.val) / 16 = j.val by omega, mul_comm, show L + 64 * k.val + (j.val + 1) = L + (64 * k.val + j.val) + 1 by omega]
  unfold tripG
  pointwise [k0_pay15]
  rw [hs, grp_apply i h6 k x14 j d (by omega), grp_apply i h6 k x15 j d (by omega), R.x, R.z, R.d]
  rfl

/-- The state before a group. -/
theorem hseq_apply {h : Vec Ideal S16x2048 .f32} (hh : ∀ s d, h (ix2 s d) = Math.st A b (d : Fin 2048) (s : Fin 16) L) (n : ℕ) (hn : n ≤ k0_t1_loop.trips) (s : Fin 16) (d : Fin 2048) :
    hseq i h6 av x14 x16 x17 h n hn (ix2 s d) = Math.st A b d s (L + 64 * n) := by
  induction n generalizing s d with
  | zero => exact hh s d
  | succ n ih => exact tripH_apply R ⟨n, hn⟩ (fun s d => ih _ s d) s d

/-- The rows the first groups write. -/
theorem gseq_apply {h : Vec Ideal S16x2048 .f32} (hh : ∀ s d, h (ix2 s d) = Math.st A b (d : Fin 2048) (s : Fin 16) L) (g0 : Vec Ideal S1x512x2048 .f32) (n : ℕ) (hn : n ≤ k0_t1_loop.trips) (r : Fin 512) (d : Fin 2048) (hr : r.val < 64 * n) :
    gseq i h6 av dv x14 x15 x16 x17 h g0 n hn (ix3 0 r d) = Math.gt A b (L + r.val) d := by
  induction n with
  | zero => omega
  | succ n ih =>
    have e := off_out ⟨n, hn⟩
    unfold gseq VecWindow.put
    by_cases hlt : r.val < 64 * n
    · rw [dif_neg]
      · exact ih _ hlt
      · intro hc
        have h1 := (hc 1).1
        rw [e] at h1
        have h2 : 64 * n ≤ r.val := h1
        omega
    · rw [dif_pos]
      · refine Eq.trans (congrArg _ ?_) ((tripG_apply R ⟨n, hn⟩ (hseq_apply R hh n _) (⟨r.val - 64 * n, by omega⟩ : Fin 64) d).trans ?_)
        · funext z
          apply Fin.ext
          rw [Rect.unitLocal_val, e]
          fin_cases z <;> rfl
        · show Math.gt A b (L + (64 * n + (r.val - 64 * n))) d = _
          rw [show 64 * n + (r.val - 64 * n) = r.val by omega]
      · intro z
        rw [e]
        fin_cases z
        · exact ⟨Nat.le_refl 0, Nat.zero_lt_one⟩
        · exact ⟨by show 64 * n ≤ r.val; omega, by show r.val < 64 * n + 64; omega⟩
        · exact ⟨Nat.zero_le _, by show d.val < 0 + 2048; omega⟩
end

/-- What block `q`'s scan reads. -/
theorem rows (A : Math.Args) (B : Blocks Ideal) (H : Reads A B) (q : ℕ) (hq : q < 8) : Rows A (q / 4) (512 * (q % 4)) (B.a (tq q 4)) (B.d (tq q 4)) (xc B q) (zg B q) (dlt B q) (bc B q) where
  a s d := H.a q hq s d
  d d := H.d q hq d
  x r d := xc_apply H q hq r d
  z r d := zg_apply H q hq r d
  t r d := dlt_apply H q hq r d
  m r j := bc_apply H q hq r j

/-- The state block `q`'s scan finds. -/
theorem hIn_apply (A : Math.Args) (B : Blocks Ideal) (H : Reads A B) (q : ℕ) (hq : q < 8) (s : Fin 16) (d : Fin 2048) : hIn B q (ix2 s d) = Math.st A (q / 4) d s (512 * (q % 4)) := by
  have h0 : (k0_pay12 : FVec Ideal S16x2048 .f32) (ix2 s d) = 0 := by
    pointwise [k0_pay12]
  induction q generalizing s d with
  | zero => exact h0
  | succ q ih =>
    by_cases h4 : (q + 1) % 4 = 0
    · rw [hIn_first (q + 1) h4, h4]; exact h0
    · rw [hIn, if_neg h4]
      unfold hAfter
      rw [hseq_apply (rows A B H q (by omega)) (fun s d => ih (by omega) s d (by pointwise [k0_pay12])), trips8, show (q + 1) / 4 = q / 4 by omega, show 512 * ((q + 1) % 4) = 512 * (q % 4) + 64 * 8 by omega]

/-- Block `q` of the scan's gated output. -/
theorem outB_apply (A : Math.Args) (B : Blocks Ideal) (H : Reads A B) (q : ℕ) (hq : q < 8) (r : Fin 512) (d : Fin 2048) : outB B q (ix3 0 r d) = Math.gt A (q / 4) (512 * (q % 4) + r.val) d :=
  gseq_apply (rows A B H q hq) (hIn_apply A B H q hq) _ _ _ r d (by rw [trips8]; omega)

end Cert.KernelIdeal.Value
end
-- ==== Proof.Value.Calls.lean ====
module

public import proofs.«01_k».proof.Proof.Value.Groups
public import Idealize.ShloMosaic.Lib.Pointwise
public import proofs.«01_k».proof.Proof.KI.Segs
public import Idealize.ShloMosaic.Lib.Pipeline.ValueKit

@[expose] public section

set_option maxRecDepth 16384

noncomputable section

namespace Cert.KernelIdeal.Value

open Cert.KernelIdeal Cert.KernelIdeal.Gen Cert.KernelIdeal.Hand
open Idealize.ShloMosaic

open Idealize.ShloMosaic.TcCoe

/-! The two calls' result arrays, entry by entry. -/

variable (m : (ℓ : Loc nD τ sig) → Buf (Elt Ideal) ℓ) (c : Dev nD)

/-- The kernel's arguments. -/
def args : Math.Args :=
  Math.argsOf (fun i j k => m ((c.tc : Thread nD τ).loc main_arg0) (ix3 i j k)) (fun i j => m ((c.tc : Thread nD τ).loc main_arg1) (ix2 i j))
    (fun i j => m ((c.tc : Thread nD τ).loc main_arg2) (ix2 i j)) (fun i => m ((c.tc : Thread nD τ).loc main_arg3) (ix1 i))
    (fun i j => m ((c.tc : Thread nD τ).loc main_arg4) (ix2 i j)) (fun i j => m ((c.tc : Thread nD τ).loc main_arg5) (ix2 i j))
    (fun i => m ((c.tc : Thread nD τ).loc main_arg6) (ix1 i)) (fun i j => m ((c.tc : Thread nD τ).loc main_arg7) (ix2 i j))
    (fun i => m ((c.tc : Thread nD τ).loc main_arg8) (ix1 i)) (fun i j => m ((c.tc : Thread nD τ).loc main_arg9) (ix2 i j))

/-! Their entries, by number. -/

/-- The input's entries. -/
theorem args_x {i j k : ℕ} (hi : i < 2) (hj : j < 2048) (hk : k < 1024) : (args m c).x i j k = m ((c.tc : Thread nD τ).loc main_arg0) (ix3 ⟨i, hi⟩ ⟨j, hj⟩ ⟨k, hk⟩) := by
  unfold args Math.argsOf
  dsimp only
  rw [Math.at3_of _ hi hj hk]
/-- The input projection's entries. -/
theorem args_w {i j : ℕ} (hi : i < 1024) (hj : j < 4096) : (args m c).w i j = m ((c.tc : Thread nD τ).loc main_arg1) (ix2 ⟨i, hi⟩ ⟨j, hj⟩) := by
  unfold args Math.argsOf
  dsimp only
  rw [Math.at2_of _ hi hj]
/-- The convolution's entries. -/
theorem args_cw {i j : ℕ} (hi : i < 2048) (hj : j < 4) : (args m c).cw i j = m ((c.tc : Thread nD τ).loc main_arg2) (ix2 ⟨i, hi⟩ ⟨j, hj⟩) := by
  unfold args Math.argsOf
  dsimp only
  rw [Math.at2_of _ hi hj]
/-- The entries of its bias. -/
theorem args_cb {i : ℕ} (hi : i < 2048) : (args m c).cb i = m ((c.tc : Thread nD τ).loc main_arg3) (ix1 ⟨i, hi⟩) := by
  unfold args Math.argsOf
  dsimp only
  rw [Math.at1_of _ hi]
/-- The entries of the projection to step sizes and maps. -/
theorem args_xp {i j : ℕ} (hi : i < 2048) (hj : j < 96) : (args m c).xp i j = m ((c.tc : Thread nD τ).loc main_arg4) (ix2 ⟨i, hi⟩ ⟨j, hj⟩) := by
  unfold args Math.argsOf
  dsimp only
  rw [Math.at2_of _ hi hj]
/-- The entries of the step sizes' projection. -/
theorem args_dw {i j : ℕ} (hi : i < 64) (hj : j < 2048) : (args m c).dw i j = m ((c.tc : Thread nD τ).loc main_arg5) (ix2 ⟨i, hi⟩ ⟨j, hj⟩) := by
  unfold args Math.argsOf
  dsimp only
  rw [Math.at2_of _ hi hj]
/-- The entries of its bias. -/
theorem args_db {i : ℕ} (hi : i < 2048) : (args m c).db i = m ((c.tc : Thread nD τ).loc main_arg6) (ix1 ⟨i, hi⟩) := by
  unfold args Math.argsOf
  dsimp only
  rw [Math.at1_of _ hi]
/-- The entries of the rates' logarithms. -/
theorem args_a {i j : ℕ} (hi : i < 2048) (hj : j < 16) : (args m c).a i j = m ((c.tc : Thread nD τ).loc main_arg7) (ix2 ⟨i, hi⟩ ⟨j, hj⟩) := by
  unfold args Math.argsOf
  dsimp only
  rw [Math.at2_of _ hi hj]
/-- The direct term's entries. -/
theorem args_d {i : ℕ} (hi : i < 2048) : (args m c).d i = m ((c.tc : Thread nD τ).loc main_arg8) (ix1 ⟨i, hi⟩) := by
  unfold args Math.argsOf
  dsimp only
  rw [Math.at1_of _ hi]
/-- The output projection's entries. -/
theorem args_ow {i j : ℕ} (hi : i < 2048) (hj : j < 1024) : (args m c).ow i j = m ((c.tc : Thread nD τ).loc main_arg9) (ix2 ⟨i, hi⟩ ⟨j, hj⟩) := by
  unfold args Math.argsOf
  dsimp only
  rw [Math.at2_of _ hi hj]

/-! The windows' block indices over the first call's grid, -/
/-- The block that window 0 of the first call shows. -/
theorem idx0_0 : ∀ t : Fin cfg0.N, win0_0.index t = ![t.val / 20, t.val / 5 % 4, 0] := (by decide +kernel : ∀ t : Fin grid0.N, _)
/-- The block that window 1 of the first call shows. -/
theorem idx0_1 : ∀ t : Fin cfg0.N, t.val % 5 < 4 → win0_1.index t = ![0, t.val % 5] := (by decide +kernel : ∀ t : Fin grid0.N, _)
/-- The block that window 2 of the first call shows. -/
theorem idx0_2 : ∀ t : Fin cfg0.N, t.val % 5 < 2 → win0_2.index t = ![t.val % 5, 0] := (by decide +kernel : ∀ t : Fin grid0.N, _)
/-- The block that window 3 of the first call shows. -/
theorem idx0_3 : ∀ t : Fin cfg0.N, t.val % 5 < 2 → win0_3.index t = ![0, t.val % 5] := (by decide +kernel : ∀ t : Fin grid0.N, _)
/-- The block that window 4 of the first call shows. -/
theorem idx0_4 : ∀ t : Fin cfg0.N, win0_4.index t = ![0, 0] := (by decide +kernel : ∀ t : Fin grid0.N, _)
/-- The block that window 5 of the first call shows. -/
theorem idx0_5 : ∀ t : Fin cfg0.N, win0_5.index t = ![0, 0] := (by decide +kernel : ∀ t : Fin grid0.N, _)
/-- The block that window 6 of the first call shows. -/
theorem idx0_6 : ∀ t : Fin cfg0.N, win0_6.index t = ![0, 0] := (by decide +kernel : ∀ t : Fin grid0.N, _)
/-- The block that window 7 of the first call shows. -/
theorem idx0_7 : ∀ t : Fin cfg0.N, win0_7.index t = ![0, 0] := (by decide +kernel : ∀ t : Fin grid0.N, _)
/-- The block that window 8 of the first call shows. -/
theorem idx0_8 : ∀ t : Fin cfg0.N, win0_8.index t = ![0, 0] := (by decide +kernel : ∀ t : Fin grid0.N, _)
/-- The block that window 9 of the first call shows. -/
theorem idx0_9 : ∀ t : Fin cfg0.N, win0_9.index t = ![t.val / 20, t.val / 5 % 4, 0] := (by decide +kernel : ∀ t : Fin grid0.N, _)

/-! and over the second's. -/
/-- The block that window 0 of the second call shows. -/
theorem idx1_0 : ∀ t : Fin cfg1.N, win1_0.index t = ![t.val / 4, t.val % 4, 0] := (by decide +kernel : ∀ t : Fin grid1.N, _)
/-- The block that window 1 of the second call shows. -/
theorem idx1_1 : ∀ t : Fin cfg1.N, win1_1.index t = ![0, 0] := (by decide +kernel : ∀ t : Fin grid1.N, _)
/-- The block that window 2 of the second call shows. -/
theorem idx1_2 : ∀ t : Fin cfg1.N, win1_2.index t = ![t.val / 4, t.val % 4, 0] := (by decide +kernel : ∀ t : Fin grid1.N, _)

/-! The arrays the calls read, from the arguments. -/

/-- The input. -/
theorem V1_arg0 : V1 m c main_arg0 = m ((c.tc : Thread nD τ).loc main_arg0) := by
  show StableHlo.after hostOps0 (V0 m c) main_arg0 = _
  entry_read
  rfl
/-- The convolution's weights. -/
theorem V1_arg2 : V1 m c main_arg2 = m ((c.tc : Thread nD τ).loc main_arg2) := by
  show StableHlo.after hostOps0 (V0 m c) main_arg2 = _
  entry_read
  rfl
/-- The projection to step sizes and maps. -/
theorem V1_arg4 : V1 m c main_arg4 = m ((c.tc : Thread nD τ).loc main_arg4) := by
  show StableHlo.after hostOps0 (V0 m c) main_arg4 = _
  entry_read
  rfl
/-- The step sizes' projection. -/
theorem V1_arg5 : V1 m c main_arg5 = m ((c.tc : Thread nD τ).loc main_arg5) := by
  show StableHlo.after hostOps0 (V0 m c) main_arg5 = _
  entry_read
  rfl
/-- The input projection, in the calls' format. -/
theorem V1_v0 (i : Fin 1024) (j : Fin 4096) : V1 m c main_v0 (ix2 i j) = m ((c.tc : Thread nD τ).loc main_arg1) (ix2 i j) := by
  show StableHlo.after hostOps0 (V0 m c) main_v0 (ix2 i j) = _
  entry_read
  rfl
/-- The output projection, in the calls' format. -/
theorem V1_v1 (i : Fin 2048) (j : Fin 1024) : V1 m c main_v1 (ix2 i j) = m ((c.tc : Thread nD τ).loc main_arg9) (ix2 i j) := by
  show StableHlo.after hostOps0 (V0 m c) main_v1 (ix2 i j) = _
  entry_read
  rfl
/-- The convolution's bias as a row. -/
theorem V1_v2 (d : Fin 2048) : V1 m c main_v2 (ix2 0 d) = m ((c.tc : Thread nD τ).loc main_arg3) (ix1 d) := by
  show StableHlo.after hostOps0 (V0 m c) main_v2 (ix2 0 d) = _
  entry_read
  pointwise
/-- The step sizes' bias as a row. -/
theorem V1_v3 (d : Fin 2048) : V1 m c main_v3 (ix2 0 d) = m ((c.tc : Thread nD τ).loc main_arg6) (ix1 d) := by
  show StableHlo.after hostOps0 (V0 m c) main_v3 (ix2 0 d) = _
  entry_read
  pointwise
/-- The direct term as a row. -/
theorem V1_v5 (d : Fin 2048) : V1 m c main_v5 (ix2 0 d) = m ((c.tc : Thread nD τ).loc main_arg8) (ix1 d) := by
  show StableHlo.after hostOps0 (V0 m c) main_v5 (ix2 0 d) = _
  entry_read
  pointwise
/-- The rates' logarithms, states first. -/
theorem V1_v4 (s : Fin 16) (d : Fin 2048) : V1 m c main_v4 (ix2 s d) = m ((c.tc : Thread nD τ).loc main_arg7) (ix2 d s) := by
  show StableHlo.after hostOps0 (V0 m c) main_v4 (ix2 s d) = _
  entry_read
  pointwise

/-- The first call's blocks hold the arguments' entries. -/
theorem reads : Reads (args m c) (blocks m c) where
  x q n hq hn r k := by
    have ht := tq_val q n hq hn
    have e := idx0_0 (tq q n)
    refine (congrFun (V1_arg0 m c) ((win0_0.blk (tq q n)).view.emb (ix3 0 r k))).trans (Eq.trans (congrArg _ ?_) (args_x m c (show q / 4 < 2 by omega) (show 512 * (q % 4) + r.val < 2048 by omega) k.isLt).symm)
    blk_ext [e]
  w q n hq hn k e' := by
    have ht := tq_val q n hq (by omega)
    have e := idx0_1 (tq q n) (by omega)
    refine (congrArg (V1 m c main_v0) ?_).trans ((V1_v0 m c k ⟨1024 * n + e'.val, by omega⟩).trans (args_w m c k.isLt (show 1024 * n + e'.val < 4096 by omega)).symm)
    show (win0_1.blk (tq q n)).view.emb (ix2 k e') = _
    blk_ext [e]
  cw q n hq hn e' j := by
    have ht := tq_val q n hq (by omega)
    have e := idx0_2 (tq q n) (by omega)
    refine (congrFun (V1_arg2 m c) ((win0_2.blk (tq q n)).view.emb (ix2 e' j))).trans (Eq.trans (congrArg _ ?_) (args_cw m c (show 1024 * n + e'.val < 2048 by omega) j.isLt).symm)
    blk_ext [e]
  cb q n hq hn e' := by
    have ht := tq_val q n hq (by omega)
    have e := idx0_3 (tq q n) (by omega)
    refine (congrArg (V1 m c main_v2) ?_).trans ((V1_v2 m c ⟨1024 * n + e'.val, by omega⟩).trans (args_cb m c (show 1024 * n + e'.val < 2048 by omega)).symm)
    show (win0_3.blk (tq q n)).view.emb (ix2 0 e') = _
    blk_ext [e]
  xp q hq k r := by
    have e := idx0_4 (tq q 1)
    refine (congrFun (V1_arg4 m c) ((win0_4.blk (tq q 1)).view.emb (ix2 k r))).trans (Eq.trans (congrArg _ ?_) (args_xp m c k.isLt r.isLt).symm)
    blk_ext [e]
  dw q hq r d := by
    have e := idx0_5 (tq q 1)
    refine (congrFun (V1_arg5 m c) ((win0_5.blk (tq q 1)).view.emb (ix2 r d))).trans (Eq.trans (congrArg _ ?_) (args_dw m c r.isLt d.isLt).symm)
    blk_ext [e]
  db q hq d := by
    have e := idx0_6 (tq q 1)
    refine (congrArg (V1 m c main_v3) ?_).trans ((V1_v3 m c d).trans (args_db m c d.isLt).symm)
    show (win0_6.blk (tq q 1)).view.emb (ix2 0 d) = _
    blk_ext [e]
  a q hq s d := by
    have e := idx0_7 (tq q 4)
    refine (congrArg (V1 m c main_v4) ?_).trans ((V1_v4 m c s d).trans (args_a m c d.isLt s.isLt).symm)
    show (win0_7.blk (tq q 4)).view.emb (ix2 s d) = _
    blk_ext [e]
  d q hq d := by
    have e := idx0_8 (tq q 4)
    refine (congrArg (V1 m c main_v5) ?_).trans ((V1_v5 m c d).trans (args_d m c d.isLt).symm)
    show (win0_8.blk (tq q 4)).view.emb (ix2 0 d) = _
    blk_ext [e]

end Cert.KernelIdeal.Value
end
-- ==== Proof.Value.Fin0.lean ====
module

public import proofs.«01_k».proof.Proof.Value.Calls
public import Idealize.ShloMosaic.Lib.Pointwise
public import proofs.«01_k».proof.Proof.KI.Segs
public import Idealize.ShloMosaic.Lib.Pipeline.ValueKit

@[expose] public section

set_option maxRecDepth 16384

noncomputable section

namespace Cert.KernelIdeal.Value

open Cert.KernelIdeal Cert.KernelIdeal.Gen Cert.KernelIdeal.Hand
open Idealize.ShloMosaic

open Idealize.ShloMosaic.TcCoe

variable (m : (ℓ : Loc nD τ sig) → Buf (Elt Ideal) ℓ) (c : Dev nD)

/-- The first call's result array: the scan's gated output. -/
theorem fin0_eq : fin0 m c = fun j : S2x2048x2048.Idx => Math.gt (args m c) (j 0).val (j 1).val (j 2).val := by
  refine (dat0 m c).arrAt_eq_of_covers 9 _ (by decide +kernel) fun t hf y => ?_
  have ht : t.val < 40 := t.isLt
  have e := idx0_9 t
  obtain ⟨r, d, rfl⟩ : ∃ (r : Fin 512) (d : Fin 2048), y = ix3 0 r d := ⟨y 1, y 2, (eq_ix3 y).trans (congrArg (fun z => ix3 z (y 1) (y 2)) (Subsingleton.elim _ _))⟩
  blk_simp
  rw [after0_9]
  refine (outB_apply (args m c) (blocks m c) (reads m c) (t.val / 5) (by omega) r d).trans ?_
  rw [e]
  show Math.gt (args m c) (t.val / 5 / 4) (512 * (t.val / 5 % 4) + r.val) d.val = Math.gt (args m c) (t.val / 20 + 0) (t.val / 5 % 4 * 512 + r.val) (0 * 2048 + d.val)
  rw [Nat.div_div_eq_div_mul, Nat.mul_comm 512, Nat.add_zero, Nat.zero_mul, Nat.zero_add]

end Cert.KernelIdeal.Value
end
-- ==== Proof.Value.Fin1.lean ====
module

public import proofs.«01_k».proof.Proof.Value.Fin0
public import Idealize.ShloMosaic.Lib.Pointwise
public import proofs.«01_k».proof.Proof.KI.Segs
public import Idealize.ShloMosaic.Lib.Pipeline.ValueKit

@[expose] public section

set_option maxRecDepth 16384

noncomputable section

namespace Cert.KernelIdeal.Value

open Cert.KernelIdeal Cert.KernelIdeal.Gen Cert.KernelIdeal.Hand
open Idealize.ShloMosaic

open Idealize.ShloMosaic.TcCoe

variable (m : (ℓ : Loc nD τ sig) → Buf (Elt Ideal) ℓ) (c : Dev nD)

/-- The second call's result array: the kernel's result. -/
theorem fin1_eq : fin1 m c = fun j : S2x2048x1024.Idx => Math.out (args m c) (j 0).val (j 1).val (j 2).val := by
  refine (dat1 m c).arrAt_eq_of_covers 2 _ (by decide +kernel) fun t hf y => ?_
  have ht : t.val < 8 := t.isLt
  have e := idx1_2 t
  have ey := idx1_0 t
  have eo := idx1_1 t
  obtain ⟨r, n, rfl⟩ : ∃ (r : Fin 512) (n : Fin 1024), y = ix3 0 r n := ⟨y 1, y 2, (eq_ix3 y).trans (congrArg (fun z => ix3 z (y 1) (y 2)) (Subsingleton.elim _ _))⟩
  blk_simp
  rw [after1_2]
  have hy : ∀ d : Fin 2048, yblk m c t (ix3 0 r d) = Math.gt (args m c) (t.val / 4) (512 * (t.val % 4) + r.val) d := fun d => by
    refine (congrFun (W2_v6 m c) ((win1_0.blk t).view.emb (ix3 0 r d))).trans ((congrArg (fin0 m c) ?_).trans (congrFun (fin0_eq m c) (ix3 (⟨t.val / 4, by omega⟩ : Fin 2) (⟨512 * (t.val % 4) + r.val, by omega⟩ : Fin 2048) d)))
    blk_ext [ey]
  have ho : ∀ d : Fin 2048, oblk m c t (ix2 d n) = (args m c).ow d n := fun d => by
    refine (congrFun (W2_of m c main_v1 (by decide)) ((win1_1.blk t).view.emb (ix2 d n))).trans ((congrArg (V1 m c main_v1) ?_).trans ((V1_v1 m c d n).trans (args_ow m c d.isLt n.isLt).symm))
    blk_ext [eo]
  rw [e]
  refine Eq.trans ?_ (show Math.out (args m c) (t.val / 4) (512 * (t.val % 4) + r.val) n.val = Math.out (args m c) (t.val / 4 + 0) (t.val % 4 * 512 + r.val) (0 * 1024 + n.val) by
    rw [Nat.mul_comm 512, Nat.add_zero, Nat.zero_mul, Nat.zero_add])
  show k1_pay1 (yblk m c t) (oblk m c t) (ix3 0 r n) = _
  pointwise [k1_pay1]
  unfold Math.out
  exact Finset.sum_congr rfl fun d _ => by rw [hy, ho]

end Cert.KernelIdeal.Value
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.RunMain
public import proofs.«01_k».proof.Proof.KI.RunMain
public import proofs.«01_k».proof.Proof.Ref.Value
public import proofs.«01_k».proof.Proof.Value.Fin1
public import Idealize.ShloMosaic.Adequacy
public import Idealize.ShloMosaic.Init

@[expose] public section

noncomputable section

namespace Cert.Proof

open Idealize.ShloMosaic Idealize.SL.Sem

/-- The kernel as printed runs, leaves its arguments alone and every semaphore at zero. -/
theorem kernel_frame : @Cert.quiescent_Kernel Cert.Kernel.Gen.facts := fun m g _ =>
  (θ_run _ _ _).mono (fun _ h => ⟨fun c => (h.1 c).2, h.2⟩) (Cert.Kernel.Hand.run_main (F := Bits) m g)

/-- So does the idealized kernel. -/
theorem kernelIdeal_frame : @Cert.quiescent_KernelIdeal Cert.KernelIdeal.Gen.facts := fun m g _ =>
  (θ_run _ _ _).mono (fun _ h => ⟨fun c => (h.1 c).2, h.2⟩) (Cert.KernelIdeal.Hand.run_main (F := Ideal) m g)

/-- So does the reference. -/
theorem reference_frame : @Cert.quiescent_ReferenceIdeal Cert.ReferenceIdeal.Gen.facts := fun m g _ =>
  (θ_run _ _ _).mono (fun _ h => ⟨fun c => (h.1 c).2, h.2⟩) (Cert.ReferenceIdeal.Hand.run_main (F := Ideal) m g)

/-- The three named constants stand for the literals they replace. -/
theorem constants : Cert.preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

/-- From arguments that agree, both programs' mathematics starts from the same numbers. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Entries.args m' c = Cert.KernelIdeal.Value.args m c := by
  obtain ⟨h0, h1, h2, h3, h4, h5, h6, h7, h8, h9⟩ := h
  unfold Cert.ReferenceIdeal.Entries.args Cert.KernelIdeal.Value.args
  rw [h0, h1, h2, h3, h4, h5, h6, h7, h8, h9]

/-- The idealized kernel and the reference end with the same result, every entry of it. -/
theorem kernel_reference : @Cert.algebraic_KernelIdeal_ReferenceIdeal Cert.KernelIdeal.Gen.facts Cert.ReferenceIdeal.Gen.facts := fun m g m' g' _ hargs =>
  ⟨fun c => Cert.KernelIdeal.Hand.fin1 m c,
    (θ_run _ _ _).mono (fun _ h => h.1) (Cert.KernelIdeal.Hand.run_main (F := Ideal) m g),
    (θ_run _ _ _).mono (fun _ h c => ⟨(h.1 c).1.trans ((Cert.ReferenceIdeal.Entries.result_eq m' c).trans (by
      rw [args_agree m m' c (hargs c)]
      exact (Cert.KernelIdeal.Value.fin1_eq m c).symm)), (h.1 c).2⟩) (Cert.ReferenceIdeal.Hand.run_main (F := Ideal) m' g')⟩

/-- Every claim of the certificate. -/
theorem claim : Cert.Claim :=
  ⟨Cert.Kernel.Gen.facts, Cert.KernelIdeal.Gen.facts, Cert.ReferenceIdeal.Gen.facts,
    kernel_frame, kernelIdeal_frame, reference_frame, constants, kernel_reference⟩

end Cert.Proof

end
